-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S8x64x512 : Shape := ⟨3, ![8, 64, 512]⟩
abbrev S2x8 : Shape := ⟨2, ![2, 8]⟩
abbrev S_ : Shape := ⟨0, ![]⟩
abbrev S64x256 : Shape := ⟨2, ![64, 256]⟩
abbrev S64x512 : Shape := ⟨2, ![64, 512]⟩
abbrev S1x1 : Shape := ⟨2, ![1, 1]⟩
abbrev S1x64x256 : Shape := ⟨3, ![1, 64, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S512x512, .bf16⟩
  | .local _ .vmem, ⟨4, _⟩ => ⟨S8x64x512, .bf16⟩
  | .local _ .vmem, ⟨5, _⟩ => ⟨S512x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c64_i32 : BitVec 32 := 64#32
  let v106 : BitVec 32 := Scalar.muli v105 c64_i32
  let v107 : Index := Scalar.indexCast v106
  let c0 : Index := 0#32
  ![v107.toNat, 0]
def k0_off2 (d0 : Dev nD) (c1_i32_63 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c64_i32_72 : BitVec 32 := 64#32
  let v114 : BitVec 32 := Scalar.muli v105 c64_i32_72
  let v115 : Index := Scalar.indexCast v114
  let c0_73 : Index := 0#32
  ![v115.toNat, 0]
def k0_off3 (d0 : Dev nD) (c1_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v167 : BitVec 32 := Scalar.addi v2 c1_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c64_i32_110 : BitVec 32 := 64#32
  let v178 : BitVec 32 := Scalar.muli v177 c64_i32_110
  let c0_i32_120 : BitVec 32 := 0#32
  ![v178.toNat, 0]
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v167 : BitVec 32 := Scalar.addi v2 c1_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_116 : BitVec 32 := 1#32
  let v179 : BitVec 32 := Scalar.muli v177 c1_i32_116
  let v180 : BitVec 32 := Scalar.addi c0_i32_117 v179
  v180.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v188 : BitVec 32 := Scalar.addi v2 c2_i32_121
  let c8_i32_122 : BitVec 32 := 8#32
  let c0_i32_123 : BitVec 32 := 0#32
  let v189 : BitVec 1 := Scalar.cmpi .eq c8_i32_122 c0_i32_123
  let c1_i32_124 : BitVec 32 := 1#32
  let v190 : BitVec 32 := Scalar.select v189 c1_i32_124 c8_i32_122
  let v191 : BitVec 32 := Scalar.remsi v188 v190
  let c0_i32_126 : BitVec 32 := 0#32
  let v193 : BitVec 1 := Scalar.cmpi .slt v191 c0_i32_126
  let c0_i32_127 : BitVec 32 := 0#32
  let v194 : BitVec 1 := Scalar.cmpi .slt v190 c0_i32_127
  let v195 : BitVec 1 := Scalar.xori v193 v194
  let c0_i32_125 : BitVec 32 := 0#32
  let v192 : BitVec 1 := Scalar.cmpi .ne v191 c0_i32_125
  let v196 : BitVec 1 := Scalar.andi v195 v192
  let v197 : BitVec 32 := Scalar.addi v191 v190
  let v198 : BitVec 32 := Scalar.select v196 v197 v191
  let c1_i32_134 : BitVec 32 := 1#32
  let v200 : BitVec 32 := Scalar.muli v198 c1_i32_134
  let v201 : BitVec 32 := Scalar.addi c0_i32_135 v200
  v201.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_139 : BitVec 32 := 3#32
  let v209 : BitVec 32 := Scalar.addi v2 c3_i32_139
  let c8_i32_140 : BitVec 32 := 8#32
  let c0_i32_141 : BitVec 32 := 0#32
  let v210 : BitVec 1 := Scalar.cmpi .eq c8_i32_140 c0_i32_141
  let c1_i32_142 : BitVec 32 := 1#32
  let v211 : BitVec 32 := Scalar.select v210 c1_i32_142 c8_i32_140
  let v212 : BitVec 32 := Scalar.remsi v209 v211
  let c0_i32_144 : BitVec 32 := 0#32
  let v214 : BitVec 1 := Scalar.cmpi .slt v212 c0_i32_144
  let c0_i32_145 : BitVec 32 := 0#32
  let v215 : BitVec 1 := Scalar.cmpi .slt v211 c0_i32_145
  let v216 : BitVec 1 := Scalar.xori v214 v215
  let c0_i32_143 : BitVec 32 := 0#32
  let v213 : BitVec 1 := Scalar.cmpi .ne v212 c0_i32_143
  let v217 : BitVec 1 := Scalar.andi v216 v213
  let v218 : BitVec 32 := Scalar.addi v212 v211
  let v219 : BitVec 32 := Scalar.select v217 v218 v212
  let c1_i32_152 : BitVec 32 := 1#32
  let v221 : BitVec 32 := Scalar.muli v219 c1_i32_152
  let v222 : BitVec 32 := Scalar.addi c0_i32_153 v221
  v222.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v254 : BitVec 32 := Scalar.addi v2 c4_i32_171
  let c8_i32_172 : BitVec 32 := 8#32
  let c0_i32_173 : BitVec 32 := 0#32
  let v255 : BitVec 1 := Scalar.cmpi .eq c8_i32_172 c0_i32_173
  let c1_i32_174 : BitVec 32 := 1#32
  let v256 : BitVec 32 := Scalar.select v255 c1_i32_174 c8_i32_172
  let v257 : BitVec 32 := Scalar.remsi v254 v256
  let c0_i32_176 : BitVec 32 := 0#32
  let v259 : BitVec 1 := Scalar.cmpi .slt v257 c0_i32_176
  let c0_i32_177 : BitVec 32 := 0#32
  let v260 : BitVec 1 := Scalar.cmpi .slt v256 c0_i32_177
  let v261 : BitVec 1 := Scalar.xori v259 v260
  let c0_i32_175 : BitVec 32 := 0#32
  let v258 : BitVec 1 := Scalar.cmpi .ne v257 c0_i32_175
  let v262 : BitVec 1 := Scalar.andi v261 v258
  let v263 : BitVec 32 := Scalar.addi v257 v256
  let v264 : BitVec 32 := Scalar.select v262 v263 v257
  let c1_i32_184 : BitVec 32 := 1#32
  let v266 : BitVec 32 := Scalar.muli v264 c1_i32_184
  let v267 : BitVec 32 := Scalar.addi c0_i32_185 v266
  v267.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_203 : BitVec 32 := 5#32
  let v299 : BitVec 32 := Scalar.addi v2 c5_i32_203
  let c8_i32_204 : BitVec 32 := 8#32
  let c0_i32_205 : BitVec 32 := 0#32
  let v300 : BitVec 1 := Scalar.cmpi .eq c8_i32_204 c0_i32_205
  let c1_i32_206 : BitVec 32 := 1#32
  let v301 : BitVec 32 := Scalar.select v300 c1_i32_206 c8_i32_204
  let v302 : BitVec 32 := Scalar.remsi v299 v301
  let c0_i32_208 : BitVec 32 := 0#32
  let v304 : BitVec 1 := Scalar.cmpi .slt v302 c0_i32_208
  let c0_i32_209 : BitVec 32 := 0#32
  let v305 : BitVec 1 := Scalar.cmpi .slt v301 c0_i32_209
  let v306 : BitVec 1 := Scalar.xori v304 v305
  let c0_i32_207 : BitVec 32 := 0#32
  let v303 : BitVec 1 := Scalar.cmpi .ne v302 c0_i32_207
  let v307 : BitVec 1 := Scalar.andi v306 v303
  let v308 : BitVec 32 := Scalar.addi v302 v301
  let v309 : BitVec 32 := Scalar.select v307 v308 v302
  let c1_i32_216 : BitVec 32 := 1#32
  let v311 : BitVec 32 := Scalar.muli v309 c1_i32_216
  let v312 : BitVec 32 := Scalar.addi c0_i32_217 v311
  v312.toNat
def k0_dev13 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_235 : BitVec 32 := 6#32
  let v344 : BitVec 32 := Scalar.addi v2 c6_i32_235
  let c8_i32_236 : BitVec 32 := 8#32
  let c0_i32_237 : BitVec 32 := 0#32
  let v345 : BitVec 1 := Scalar.cmpi .eq c8_i32_236 c0_i32_237
  let c1_i32_238 : BitVec 32 := 1#32
  let v346 : BitVec 32 := Scalar.select v345 c1_i32_238 c8_i32_236
  let v347 : BitVec 32 := Scalar.remsi v344 v346
  let c0_i32_240 : BitVec 32 := 0#32
  let v349 : BitVec 1 := Scalar.cmpi .slt v347 c0_i32_240
  let c0_i32_241 : BitVec 32 := 0#32
  let v350 : BitVec 1 := Scalar.cmpi .slt v346 c0_i32_241
  let v351 : BitVec 1 := Scalar.xori v349 v350
  let c0_i32_239 : BitVec 32 := 0#32
  let v348 : BitVec 1 := Scalar.cmpi .ne v347 c0_i32_239
  let v352 : BitVec 1 := Scalar.andi v351 v348
  let v353 : BitVec 32 := Scalar.addi v347 v346
  let v354 : BitVec 32 := Scalar.select v352 v353 v347
  let c1_i32_248 : BitVec 32 := 1#32
  let v356 : BitVec 32 := Scalar.muli v354 c1_i32_248
  let v357 : BitVec 32 := Scalar.addi c0_i32_249 v356
  v357.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_267 : BitVec 32 := 7#32
  let v389 : BitVec 32 := Scalar.addi v2 c7_i32_267
  let c8_i32_268 : BitVec 32 := 8#32
  let c0_i32_269 : BitVec 32 := 0#32
  let v390 : BitVec 1 := Scalar.cmpi .eq c8_i32_268 c0_i32_269
  let c1_i32_270 : BitVec 32 := 1#32
  let v391 : BitVec 32 := Scalar.select v390 c1_i32_270 c8_i32_268
  let v392 : BitVec 32 := Scalar.remsi v389 v391
  let c0_i32_272 : BitVec 32 := 0#32
  let v394 : BitVec 1 := Scalar.cmpi .slt v392 c0_i32_272
  let c0_i32_273 : BitVec 32 := 0#32
  let v395 : BitVec 1 := Scalar.cmpi .slt v391 c0_i32_273
  let v396 : BitVec 1 := Scalar.xori v394 v395
  let c0_i32_271 : BitVec 32 := 0#32
  let v393 : BitVec 1 := Scalar.cmpi .ne v392 c0_i32_271
  let v397 : BitVec 1 := Scalar.andi v396 v393
  let v398 : BitVec 32 := Scalar.addi v392 v391
  let v399 : BitVec 32 := Scalar.select v397 v398 v392
  let c1_i32_280 : BitVec 32 := 1#32
  let v401 : BitVec 32 := Scalar.muli v399 c1_i32_280
  let v402 : BitVec 32 := Scalar.addi c0_i32_281 v401
  v402.toNat
def k0_off4 (d0 : Dev nD) (c1_i32_285 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v410 : BitVec 32 := Scalar.addi v2 c1_i32_285
  let c8_i32_286 : BitVec 32 := 8#32
  let c0_i32_287 : BitVec 32 := 0#32
  let v411 : BitVec 1 := Scalar.cmpi .eq c8_i32_286 c0_i32_287
  let c1_i32_288 : BitVec 32 := 1#32
  let v412 : BitVec 32 := Scalar.select v411 c1_i32_288 c8_i32_286
  let v413 : BitVec 32 := Scalar.remsi v410 v412
  let c0_i32_290 : BitVec 32 := 0#32
  let v415 : BitVec 1 := Scalar.cmpi .slt v413 c0_i32_290
  let c0_i32_291 : BitVec 32 := 0#32
  let v416 : BitVec 1 := Scalar.cmpi .slt v412 c0_i32_291
  let v417 : BitVec 1 := Scalar.xori v415 v416
  let c0_i32_289 : BitVec 32 := 0#32
  let v414 : BitVec 1 := Scalar.cmpi .ne v413 c0_i32_289
  let v418 : BitVec 1 := Scalar.andi v417 v414
  let v419 : BitVec 32 := Scalar.addi v413 v412
  let v420 : BitVec 32 := Scalar.select v418 v419 v413
  let c64_i32_292 : BitVec 32 := 64#32
  let v421 : BitVec 32 := Scalar.muli v420 c64_i32_292
  let c256_i32_301 : BitVec 32 := 256#32
  ![v421.toNat, 256]
def k0_dev15 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_285 : BitVec 32 := 1#32
  let v410 : BitVec 32 := Scalar.addi v2 c1_i32_285
  let c8_i32_286 : BitVec 32 := 8#32
  let c0_i32_287 : BitVec 32 := 0#32
  let v411 : BitVec 1 := Scalar.cmpi .eq c8_i32_286 c0_i32_287
  let c1_i32_288 : BitVec 32 := 1#32
  let v412 : BitVec 32 := Scalar.select v411 c1_i32_288 c8_i32_286
  let v413 : BitVec 32 := Scalar.remsi v410 v412
  let c0_i32_290 : BitVec 32 := 0#32
  let v415 : BitVec 1 := Scalar.cmpi .slt v413 c0_i32_290
  let c0_i32_291 : BitVec 32 := 0#32
  let v416 : BitVec 1 := Scalar.cmpi .slt v412 c0_i32_291
  let v417 : BitVec 1 := Scalar.xori v415 v416
  let c0_i32_289 : BitVec 32 := 0#32
  let v414 : BitVec 1 := Scalar.cmpi .ne v413 c0_i32_289
  let v418 : BitVec 1 := Scalar.andi v417 v414
  let v419 : BitVec 32 := Scalar.addi v413 v412
  let v420 : BitVec 32 := Scalar.select v418 v419 v413
  let c1_i32_298 : BitVec 32 := 1#32
  let v422 : BitVec 32 := Scalar.muli v420 c1_i32_298
  let v423 : BitVec 32 := Scalar.addi c0_i32_299 v422
  v423.toNat
def k0_dev16 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_302 : BitVec 32 := 2#32
  let v431 : BitVec 32 := Scalar.addi v2 c2_i32_302
  let c8_i32_303 : BitVec 32 := 8#32
  let c0_i32_304 : BitVec 32 := 0#32
  let v432 : BitVec 1 := Scalar.cmpi .eq c8_i32_303 c0_i32_304
  let c1_i32_305 : BitVec 32 := 1#32
  let v433 : BitVec 32 := Scalar.select v432 c1_i32_305 c8_i32_303
  let v434 : BitVec 32 := Scalar.remsi v431 v433
  let c0_i32_307 : BitVec 32 := 0#32
  let v436 : BitVec 1 := Scalar.cmpi .slt v434 c0_i32_307
  let c0_i32_308 : BitVec 32 := 0#32
  let v437 : BitVec 1 := Scalar.cmpi .slt v433 c0_i32_308
  let v438 : BitVec 1 := Scalar.xori v436 v437
  let c0_i32_306 : BitVec 32 := 0#32
  let v435 : BitVec 1 := Scalar.cmpi .ne v434 c0_i32_306
  let v439 : BitVec 1 := Scalar.andi v438 v435
  let v440 : BitVec 32 := Scalar.addi v434 v433
  let v441 : BitVec 32 := Scalar.select v439 v440 v434
  let c1_i32_315 : BitVec 32 := 1#32
  let v443 : BitVec 32 := Scalar.muli v441 c1_i32_315
  let v444 : BitVec 32 := Scalar.addi c0_i32_316 v443
  v444.toNat
def k0_dev17 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_320 : BitVec 32 := 3#32
  let v452 : BitVec 32 := Scalar.addi v2 c3_i32_320
  let c8_i32_321 : BitVec 32 := 8#32
  let c0_i32_322 : BitVec 32 := 0#32
  let v453 : BitVec 1 := Scalar.cmpi .eq c8_i32_321 c0_i32_322
  let c1_i32_323 : BitVec 32 := 1#32
  let v454 : BitVec 32 := Scalar.select v453 c1_i32_323 c8_i32_321
  let v455 : BitVec 32 := Scalar.remsi v452 v454
  let c0_i32_325 : BitVec 32 := 0#32
  let v457 : BitVec 1 := Scalar.cmpi .slt v455 c0_i32_325
  let c0_i32_326 : BitVec 32 := 0#32
  let v458 : BitVec 1 := Scalar.cmpi .slt v454 c0_i32_326
  let v459 : BitVec 1 := Scalar.xori v457 v458
  let c0_i32_324 : BitVec 32 := 0#32
  let v456 : BitVec 1 := Scalar.cmpi .ne v455 c0_i32_324
  let v460 : BitVec 1 := Scalar.andi v459 v456
  let v461 : BitVec 32 := Scalar.addi v455 v454
  let v462 : BitVec 32 := Scalar.select v460 v461 v455
  let c1_i32_333 : BitVec 32 := 1#32
  let v464 : BitVec 32 := Scalar.muli v462 c1_i32_333
  let v465 : BitVec 32 := Scalar.addi c0_i32_334 v464
  v465.toNat
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_338 : BitVec 32 := 4#32
  let v473 : BitVec 32 := Scalar.addi v2 c4_i32_338
  let c8_i32_339 : BitVec 32 := 8#32
  let c0_i32_340 : BitVec 32 := 0#32
  let v474 : BitVec 1 := Scalar.cmpi .eq c8_i32_339 c0_i32_340
  let c1_i32_341 : BitVec 32 := 1#32
  let v475 : BitVec 32 := Scalar.select v474 c1_i32_341 c8_i32_339
  let v476 : BitVec 32 := Scalar.remsi v473 v475
  let c0_i32_343 : BitVec 32 := 0#32
  let v478 : BitVec 1 := Scalar.cmpi .slt v476 c0_i32_343
  let c0_i32_344 : BitVec 32 := 0#32
  let v479 : BitVec 1 := Scalar.cmpi .slt v475 c0_i32_344
  let v480 : BitVec 1 := Scalar.xori v478 v479
  let c0_i32_342 : BitVec 32 := 0#32
  let v477 : BitVec 1 := Scalar.cmpi .ne v476 c0_i32_342
  let v481 : BitVec 1 := Scalar.andi v480 v477
  let v482 : BitVec 32 := Scalar.addi v476 v475
  let v483 : BitVec 32 := Scalar.select v481 v482 v476
  let c1_i32_351 : BitVec 32 := 1#32
  let v485 : BitVec 32 := Scalar.muli v483 c1_i32_351
  let v486 : BitVec 32 := Scalar.addi c0_i32_352 v485
  v486.toNat
def k0_dev19 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_356 : BitVec 32 := 5#32
  let v494 : BitVec 32 := Scalar.addi v2 c5_i32_356
  let c8_i32_357 : BitVec 32 := 8#32
  let c0_i32_358 : BitVec 32 := 0#32
  let v495 : BitVec 1 := Scalar.cmpi .eq c8_i32_357 c0_i32_358
  let c1_i32_359 : BitVec 32 := 1#32
  let v496 : BitVec 32 := Scalar.select v495 c1_i32_359 c8_i32_357
  let v497 : BitVec 32 := Scalar.remsi v494 v496
  let c0_i32_361 : BitVec 32 := 0#32
  let v499 : BitVec 1 := Scalar.cmpi .slt v497 c0_i32_361
  let c0_i32_362 : BitVec 32 := 0#32
  let v500 : BitVec 1 := Scalar.cmpi .slt v496 c0_i32_362
  let v501 : BitVec 1 := Scalar.xori v499 v500
  let c0_i32_360 : BitVec 32 := 0#32
  let v498 : BitVec 1 := Scalar.cmpi .ne v497 c0_i32_360
  let v502 : BitVec 1 := Scalar.andi v501 v498
  let v503 : BitVec 32 := Scalar.addi v497 v496
  let v504 : BitVec 32 := Scalar.select v502 v503 v497
  let c1_i32_369 : BitVec 32 := 1#32
  let v506 : BitVec 32 := Scalar.muli v504 c1_i32_369
  let v507 : BitVec 32 := Scalar.addi c0_i32_370 v506
  v507.toNat
def k0_dev20 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_374 : BitVec 32 := 6#32
  let v515 : BitVec 32 := Scalar.addi v2 c6_i32_374
  let c8_i32_375 : BitVec 32 := 8#32
  let c0_i32_376 : BitVec 32 := 0#32
  let v516 : BitVec 1 := Scalar.cmpi .eq c8_i32_375 c0_i32_376
  let c1_i32_377 : BitVec 32 := 1#32
  let v517 : BitVec 32 := Scalar.select v516 c1_i32_377 c8_i32_375
  let v518 : BitVec 32 := Scalar.remsi v515 v517
  let c0_i32_379 : BitVec 32 := 0#32
  let v520 : BitVec 1 := Scalar.cmpi .slt v518 c0_i32_379
  let c0_i32_380 : BitVec 32 := 0#32
  let v521 : BitVec 1 := Scalar.cmpi .slt v517 c0_i32_380
  let v522 : BitVec 1 := Scalar.xori v520 v521
  let c0_i32_378 : BitVec 32 := 0#32
  let v519 : BitVec 1 := Scalar.cmpi .ne v518 c0_i32_378
  let v523 : BitVec 1 := Scalar.andi v522 v519
  let v524 : BitVec 32 := Scalar.addi v518 v517
  let v525 : BitVec 32 := Scalar.select v523 v524 v518
  let c1_i32_387 : BitVec 32 := 1#32
  let v527 : BitVec 32 := Scalar.muli v525 c1_i32_387
  let v528 : BitVec 32 := Scalar.addi c0_i32_388 v527
  v528.toNat
def k0_dev21 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v536 : BitVec 32 := Scalar.addi v2 c7_i32_392
  let c8_i32_393 : BitVec 32 := 8#32
  let c0_i32_394 : BitVec 32 := 0#32
  let v537 : BitVec 1 := Scalar.cmpi .eq c8_i32_393 c0_i32_394
  let c1_i32_395 : BitVec 32 := 1#32
  let v538 : BitVec 32 := Scalar.select v537 c1_i32_395 c8_i32_393
  let v539 : BitVec 32 := Scalar.remsi v536 v538
  let c0_i32_397 : BitVec 32 := 0#32
  let v541 : BitVec 1 := Scalar.cmpi .slt v539 c0_i32_397
  let c0_i32_398 : BitVec 32 := 0#32
  let v542 : BitVec 1 := Scalar.cmpi .slt v538 c0_i32_398
  let v543 : BitVec 1 := Scalar.xori v541 v542
  let c0_i32_396 : BitVec 32 := 0#32
  let v540 : BitVec 1 := Scalar.cmpi .ne v539 c0_i32_396
  let v544 : BitVec 1 := Scalar.andi v543 v540
  let v545 : BitVec 32 := Scalar.addi v539 v538
  let v546 : BitVec 32 := Scalar.select v544 v545 v539
  let c1_i32_405 : BitVec 32 := 1#32
  let v548 : BitVec 32 := Scalar.muli v546 c1_i32_405
  let v549 : BitVec 32 := Scalar.addi c0_i32_406 v548
  v549.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_410 : BitVec 32 := 64#32
  let v557 : BitVec 32 := Scalar.muli v2 c64_i32_410
  let v558 : Index := Scalar.indexCast v557
  let c0_411 : Index := 0#32
  ![v558.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_499 : BitVec 32 := 64#32
  let v643 : BitVec 32 := Scalar.muli v2 c64_i32_499
  let v644 : Index := Scalar.indexCast v643
  let c0_500 : Index := 0#32
  ![v644.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_509 : BitVec 32 := 64#32
  let v660 : BitVec 32 := Scalar.muli v2 c64_i32_509
  let c0_i32_516 : BitVec 32 := 0#32
  ![v660.toNat, 0]
def k0_dev22 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v648 : BitVec 32 := Scalar.addi v2 c1_i32_501
  let c8_i32_502 : BitVec 32 := 8#32
  let c0_i32_503 : BitVec 32 := 0#32
  let v649 : BitVec 1 := Scalar.cmpi .eq c8_i32_502 c0_i32_503
  let c1_i32_504 : BitVec 32 := 1#32
  let v650 : BitVec 32 := Scalar.select v649 c1_i32_504 c8_i32_502
  let v651 : BitVec 32 := Scalar.remsi v648 v650
  let c0_i32_506 : BitVec 32 := 0#32
  let v653 : BitVec 1 := Scalar.cmpi .slt v651 c0_i32_506
  let c0_i32_507 : BitVec 32 := 0#32
  let v654 : BitVec 1 := Scalar.cmpi .slt v650 c0_i32_507
  let v655 : BitVec 1 := Scalar.xori v653 v654
  let c0_i32_505 : BitVec 32 := 0#32
  let v652 : BitVec 1 := Scalar.cmpi .ne v651 c0_i32_505
  let v656 : BitVec 1 := Scalar.andi v655 v652
  let v657 : BitVec 32 := Scalar.addi v651 v650
  let v658 : BitVec 32 := Scalar.select v656 v657 v651
  let c1_i32_514 : BitVec 32 := 1#32
  let v661 : BitVec 32 := Scalar.muli v658 c1_i32_514
  let v662 : BitVec 32 := Scalar.addi c0_i32_515 v661
  v662.toNat
def k0_dev23 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_518 : BitVec 32 := 2#32
  let v669 : BitVec 32 := Scalar.addi v2 c2_i32_518
  let c8_i32_519 : BitVec 32 := 8#32
  let c0_i32_520 : BitVec 32 := 0#32
  let v670 : BitVec 1 := Scalar.cmpi .eq c8_i32_519 c0_i32_520
  let c1_i32_521 : BitVec 32 := 1#32
  let v671 : BitVec 32 := Scalar.select v670 c1_i32_521 c8_i32_519
  let v672 : BitVec 32 := Scalar.remsi v669 v671
  let c0_i32_523 : BitVec 32 := 0#32
  let v674 : BitVec 1 := Scalar.cmpi .slt v672 c0_i32_523
  let c0_i32_524 : BitVec 32 := 0#32
  let v675 : BitVec 1 := Scalar.cmpi .slt v671 c0_i32_524
  let v676 : BitVec 1 := Scalar.xori v674 v675
  let c0_i32_522 : BitVec 32 := 0#32
  let v673 : BitVec 1 := Scalar.cmpi .ne v672 c0_i32_522
  let v677 : BitVec 1 := Scalar.andi v676 v673
  let v678 : BitVec 32 := Scalar.addi v672 v671
  let v679 : BitVec 32 := Scalar.select v677 v678 v672
  let c1_i32_531 : BitVec 32 := 1#32
  let v682 : BitVec 32 := Scalar.muli v679 c1_i32_531
  let v683 : BitVec 32 := Scalar.addi c0_i32_532 v682
  v683.toNat
def k0_dev24 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_535 : BitVec 32 := 3#32
  let v690 : BitVec 32 := Scalar.addi v2 c3_i32_535
  let c8_i32_536 : BitVec 32 := 8#32
  let c0_i32_537 : BitVec 32 := 0#32
  let v691 : BitVec 1 := Scalar.cmpi .eq c8_i32_536 c0_i32_537
  let c1_i32_538 : BitVec 32 := 1#32
  let v692 : BitVec 32 := Scalar.select v691 c1_i32_538 c8_i32_536
  let v693 : BitVec 32 := Scalar.remsi v690 v692
  let c0_i32_540 : BitVec 32 := 0#32
  let v695 : BitVec 1 := Scalar.cmpi .slt v693 c0_i32_540
  let c0_i32_541 : BitVec 32 := 0#32
  let v696 : BitVec 1 := Scalar.cmpi .slt v692 c0_i32_541
  let v697 : BitVec 1 := Scalar.xori v695 v696
  let c0_i32_539 : BitVec 32 := 0#32
  let v694 : BitVec 1 := Scalar.cmpi .ne v693 c0_i32_539
  let v698 : BitVec 1 := Scalar.andi v697 v694
  let v699 : BitVec 32 := Scalar.addi v693 v692
  let v700 : BitVec 32 := Scalar.select v698 v699 v693
  let c1_i32_548 : BitVec 32 := 1#32
  let v703 : BitVec 32 := Scalar.muli v700 c1_i32_548
  let v704 : BitVec 32 := Scalar.addi c0_i32_549 v703
  v704.toNat
def k0_dev25 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_552 : BitVec 32 := 4#32
  let v711 : BitVec 32 := Scalar.addi v2 c4_i32_552
  let c8_i32_553 : BitVec 32 := 8#32
  let c0_i32_554 : BitVec 32 := 0#32
  let v712 : BitVec 1 := Scalar.cmpi .eq c8_i32_553 c0_i32_554
  let c1_i32_555 : BitVec 32 := 1#32
  let v713 : BitVec 32 := Scalar.select v712 c1_i32_555 c8_i32_553
  let v714 : BitVec 32 := Scalar.remsi v711 v713
  let c0_i32_557 : BitVec 32 := 0#32
  let v716 : BitVec 1 := Scalar.cmpi .slt v714 c0_i32_557
  let c0_i32_558 : BitVec 32 := 0#32
  let v717 : BitVec 1 := Scalar.cmpi .slt v713 c0_i32_558
  let v718 : BitVec 1 := Scalar.xori v716 v717
  let c0_i32_556 : BitVec 32 := 0#32
  let v715 : BitVec 1 := Scalar.cmpi .ne v714 c0_i32_556
  let v719 : BitVec 1 := Scalar.andi v718 v715
  let v720 : BitVec 32 := Scalar.addi v714 v713
  let v721 : BitVec 32 := Scalar.select v719 v720 v714
  let c1_i32_565 : BitVec 32 := 1#32
  let v724 : BitVec 32 := Scalar.muli v721 c1_i32_565
  let v725 : BitVec 32 := Scalar.addi c0_i32_566 v724
  v725.toNat
def k0_dev26 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_569 : BitVec 32 := 5#32
  let v732 : BitVec 32 := Scalar.addi v2 c5_i32_569
  let c8_i32_570 : BitVec 32 := 8#32
  let c0_i32_571 : BitVec 32 := 0#32
  let v733 : BitVec 1 := Scalar.cmpi .eq c8_i32_570 c0_i32_571
  let c1_i32_572 : BitVec 32 := 1#32
  let v734 : BitVec 32 := Scalar.select v733 c1_i32_572 c8_i32_570
  let v735 : BitVec 32 := Scalar.remsi v732 v734
  let c0_i32_574 : BitVec 32 := 0#32
  let v737 : BitVec 1 := Scalar.cmpi .slt v735 c0_i32_574
  let c0_i32_575 : BitVec 32 := 0#32
  let v738 : BitVec 1 := Scalar.cmpi .slt v734 c0_i32_575
  let v739 : BitVec 1 := Scalar.xori v737 v738
  let c0_i32_573 : BitVec 32 := 0#32
  let v736 : BitVec 1 := Scalar.cmpi .ne v735 c0_i32_573
  let v740 : BitVec 1 := Scalar.andi v739 v736
  let v741 : BitVec 32 := Scalar.addi v735 v734
  let v742 : BitVec 32 := Scalar.select v740 v741 v735
  let c1_i32_582 : BitVec 32 := 1#32
  let v745 : BitVec 32 := Scalar.muli v742 c1_i32_582
  let v746 : BitVec 32 := Scalar.addi c0_i32_583 v745
  v746.toNat
def k0_dev27 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_586 : BitVec 32 := 6#32
  let v753 : BitVec 32 := Scalar.addi v2 c6_i32_586
  let c8_i32_587 : BitVec 32 := 8#32
  let c0_i32_588 : BitVec 32 := 0#32
  let v754 : BitVec 1 := Scalar.cmpi .eq c8_i32_587 c0_i32_588
  let c1_i32_589 : BitVec 32 := 1#32
  let v755 : BitVec 32 := Scalar.select v754 c1_i32_589 c8_i32_587
  let v756 : BitVec 32 := Scalar.remsi v753 v755
  let c0_i32_591 : BitVec 32 := 0#32
  let v758 : BitVec 1 := Scalar.cmpi .slt v756 c0_i32_591
  let c0_i32_592 : BitVec 32 := 0#32
  let v759 : BitVec 1 := Scalar.cmpi .slt v755 c0_i32_592
  let v760 : BitVec 1 := Scalar.xori v758 v759
  let c0_i32_590 : BitVec 32 := 0#32
  let v757 : BitVec 1 := Scalar.cmpi .ne v756 c0_i32_590
  let v761 : BitVec 1 := Scalar.andi v760 v757
  let v762 : BitVec 32 := Scalar.addi v756 v755
  let v763 : BitVec 32 := Scalar.select v761 v762 v756
  let c1_i32_599 : BitVec 32 := 1#32
  let v766 : BitVec 32 := Scalar.muli v763 c1_i32_599
  let v767 : BitVec 32 := Scalar.addi c0_i32_600 v766
  v767.toNat
def k0_dev28 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_603 : BitVec 32 := 7#32
  let v774 : BitVec 32 := Scalar.addi v2 c7_i32_603
  let c8_i32_604 : BitVec 32 := 8#32
  let c0_i32_605 : BitVec 32 := 0#32
  let v775 : BitVec 1 := Scalar.cmpi .eq c8_i32_604 c0_i32_605
  let c1_i32_606 : BitVec 32 := 1#32
  let v776 : BitVec 32 := Scalar.select v775 c1_i32_606 c8_i32_604
  let v777 : BitVec 32 := Scalar.remsi v774 v776
  let c0_i32_608 : BitVec 32 := 0#32
  let v779 : BitVec 1 := Scalar.cmpi .slt v777 c0_i32_608
  let c0_i32_609 : BitVec 32 := 0#32
  let v780 : BitVec 1 := Scalar.cmpi .slt v776 c0_i32_609
  let v781 : BitVec 1 := Scalar.xori v779 v780
  let c0_i32_607 : BitVec 32 := 0#32
  let v778 : BitVec 1 := Scalar.cmpi .ne v777 c0_i32_607
  let v782 : BitVec 1 := Scalar.andi v781 v778
  let v783 : BitVec 32 := Scalar.addi v777 v776
  let v784 : BitVec 32 := Scalar.select v782 v783 v777
  let c1_i32_616 : BitVec 32 := 1#32
  let v787 : BitVec 32 := Scalar.muli v784 c1_i32_616
  let v788 : BitVec 32 := Scalar.addi c0_i32_617 v787
  v788.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_712 : BitVec 32 := 64#32
  let v877 : BitVec 32 := Scalar.muli v2 c64_i32_712
  let v878 : Index := Scalar.indexCast v877
  let c256_713 : Index := 256#32
  ![v878.toNat, 256]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_722 : BitVec 32 := 64#32
  let v894 : BitVec 32 := Scalar.muli v2 c64_i32_722
  let c256_i32_729 : BitVec 32 := 256#32
  ![v894.toNat, 256]
def k0_dev29 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_714 : BitVec 32 := 1#32
  let v882 : BitVec 32 := Scalar.addi v2 c1_i32_714
  let c8_i32_715 : BitVec 32 := 8#32
  let c0_i32_716 : BitVec 32 := 0#32
  let v883 : BitVec 1 := Scalar.cmpi .eq c8_i32_715 c0_i32_716
  let c1_i32_717 : BitVec 32 := 1#32
  let v884 : BitVec 32 := Scalar.select v883 c1_i32_717 c8_i32_715
  let v885 : BitVec 32 := Scalar.remsi v882 v884
  let c0_i32_719 : BitVec 32 := 0#32
  let v887 : BitVec 1 := Scalar.cmpi .slt v885 c0_i32_719
  let c0_i32_720 : BitVec 32 := 0#32
  let v888 : BitVec 1 := Scalar.cmpi .slt v884 c0_i32_720
  let v889 : BitVec 1 := Scalar.xori v887 v888
  let c0_i32_718 : BitVec 32 := 0#32
  let v886 : BitVec 1 := Scalar.cmpi .ne v885 c0_i32_718
  let v890 : BitVec 1 := Scalar.andi v889 v886
  let v891 : BitVec 32 := Scalar.addi v885 v884
  let v892 : BitVec 32 := Scalar.select v890 v891 v885
  let c1_i32_727 : BitVec 32 := 1#32
  let v895 : BitVec 32 := Scalar.muli v892 c1_i32_727
  let v896 : BitVec 32 := Scalar.addi c0_i32_728 v895
  v896.toNat
def k0_dev30 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_731 : BitVec 32 := 2#32
  let v903 : BitVec 32 := Scalar.addi v2 c2_i32_731
  let c8_i32_732 : BitVec 32 := 8#32
  let c0_i32_733 : BitVec 32 := 0#32
  let v904 : BitVec 1 := Scalar.cmpi .eq c8_i32_732 c0_i32_733
  let c1_i32_734 : BitVec 32 := 1#32
  let v905 : BitVec 32 := Scalar.select v904 c1_i32_734 c8_i32_732
  let v906 : BitVec 32 := Scalar.remsi v903 v905
  let c0_i32_736 : BitVec 32 := 0#32
  let v908 : BitVec 1 := Scalar.cmpi .slt v906 c0_i32_736
  let c0_i32_737 : BitVec 32 := 0#32
  let v909 : BitVec 1 := Scalar.cmpi .slt v905 c0_i32_737
  let v910 : BitVec 1 := Scalar.xori v908 v909
  let c0_i32_735 : BitVec 32 := 0#32
  let v907 : BitVec 1 := Scalar.cmpi .ne v906 c0_i32_735
  let v911 : BitVec 1 := Scalar.andi v910 v907
  let v912 : BitVec 32 := Scalar.addi v906 v905
  let v913 : BitVec 32 := Scalar.select v911 v912 v906
  let c1_i32_744 : BitVec 32 := 1#32
  let v916 : BitVec 32 := Scalar.muli v913 c1_i32_744
  let v917 : BitVec 32 := Scalar.addi c0_i32_745 v916
  v917.toNat
def k0_dev31 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_748 : BitVec 32 := 3#32
  let v924 : BitVec 32 := Scalar.addi v2 c3_i32_748
  let c8_i32_749 : BitVec 32 := 8#32
  let c0_i32_750 : BitVec 32 := 0#32
  let v925 : BitVec 1 := Scalar.cmpi .eq c8_i32_749 c0_i32_750
  let c1_i32_751 : BitVec 32 := 1#32
  let v926 : BitVec 32 := Scalar.select v925 c1_i32_751 c8_i32_749
  let v927 : BitVec 32 := Scalar.remsi v924 v926
  let c0_i32_753 : BitVec 32 := 0#32
  let v929 : BitVec 1 := Scalar.cmpi .slt v927 c0_i32_753
  let c0_i32_754 : BitVec 32 := 0#32
  let v930 : BitVec 1 := Scalar.cmpi .slt v926 c0_i32_754
  let v931 : BitVec 1 := Scalar.xori v929 v930
  let c0_i32_752 : BitVec 32 := 0#32
  let v928 : BitVec 1 := Scalar.cmpi .ne v927 c0_i32_752
  let v932 : BitVec 1 := Scalar.andi v931 v928
  let v933 : BitVec 32 := Scalar.addi v927 v926
  let v934 : BitVec 32 := Scalar.select v932 v933 v927
  let c1_i32_761 : BitVec 32 := 1#32
  let v937 : BitVec 32 := Scalar.muli v934 c1_i32_761
  let v938 : BitVec 32 := Scalar.addi c0_i32_762 v937
  v938.toNat
def k0_dev32 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_765 : BitVec 32 := 4#32
  let v945 : BitVec 32 := Scalar.addi v2 c4_i32_765
  let c8_i32_766 : BitVec 32 := 8#32
  let c0_i32_767 : BitVec 32 := 0#32
  let v946 : BitVec 1 := Scalar.cmpi .eq c8_i32_766 c0_i32_767
  let c1_i32_768 : BitVec 32 := 1#32
  let v947 : BitVec 32 := Scalar.select v946 c1_i32_768 c8_i32_766
  let v948 : BitVec 32 := Scalar.remsi v945 v947
  let c0_i32_770 : BitVec 32 := 0#32
  let v950 : BitVec 1 := Scalar.cmpi .slt v948 c0_i32_770
  let c0_i32_771 : BitVec 32 := 0#32
  let v951 : BitVec 1 := Scalar.cmpi .slt v947 c0_i32_771
  let v952 : BitVec 1 := Scalar.xori v950 v951
  let c0_i32_769 : BitVec 32 := 0#32
  let v949 : BitVec 1 := Scalar.cmpi .ne v948 c0_i32_769
  let v953 : BitVec 1 := Scalar.andi v952 v949
  let v954 : BitVec 32 := Scalar.addi v948 v947
  let v955 : BitVec 32 := Scalar.select v953 v954 v948
  let c1_i32_778 : BitVec 32 := 1#32
  let v958 : BitVec 32 := Scalar.muli v955 c1_i32_778
  let v959 : BitVec 32 := Scalar.addi c0_i32_779 v958
  v959.toNat
def k0_dev33 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_782 : BitVec 32 := 5#32
  let v966 : BitVec 32 := Scalar.addi v2 c5_i32_782
  let c8_i32_783 : BitVec 32 := 8#32
  let c0_i32_784 : BitVec 32 := 0#32
  let v967 : BitVec 1 := Scalar.cmpi .eq c8_i32_783 c0_i32_784
  let c1_i32_785 : BitVec 32 := 1#32
  let v968 : BitVec 32 := Scalar.select v967 c1_i32_785 c8_i32_783
  let v969 : BitVec 32 := Scalar.remsi v966 v968
  let c0_i32_787 : BitVec 32 := 0#32
  let v971 : BitVec 1 := Scalar.cmpi .slt v969 c0_i32_787
  let c0_i32_788 : BitVec 32 := 0#32
  let v972 : BitVec 1 := Scalar.cmpi .slt v968 c0_i32_788
  let v973 : BitVec 1 := Scalar.xori v971 v972
  let c0_i32_786 : BitVec 32 := 0#32
  let v970 : BitVec 1 := Scalar.cmpi .ne v969 c0_i32_786
  let v974 : BitVec 1 := Scalar.andi v973 v970
  let v975 : BitVec 32 := Scalar.addi v969 v968
  let v976 : BitVec 32 := Scalar.select v974 v975 v969
  let c1_i32_795 : BitVec 32 := 1#32
  let v979 : BitVec 32 := Scalar.muli v976 c1_i32_795
  let v980 : BitVec 32 := Scalar.addi c0_i32_796 v979
  v980.toNat
def k0_dev34 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_799 : BitVec 32 := 6#32
  let v987 : BitVec 32 := Scalar.addi v2 c6_i32_799
  let c8_i32_800 : BitVec 32 := 8#32
  let c0_i32_801 : BitVec 32 := 0#32
  let v988 : BitVec 1 := Scalar.cmpi .eq c8_i32_800 c0_i32_801
  let c1_i32_802 : BitVec 32 := 1#32
  let v989 : BitVec 32 := Scalar.select v988 c1_i32_802 c8_i32_800
  let v990 : BitVec 32 := Scalar.remsi v987 v989
  let c0_i32_804 : BitVec 32 := 0#32
  let v992 : BitVec 1 := Scalar.cmpi .slt v990 c0_i32_804
  let c0_i32_805 : BitVec 32 := 0#32
  let v993 : BitVec 1 := Scalar.cmpi .slt v989 c0_i32_805
  let v994 : BitVec 1 := Scalar.xori v992 v993
  let c0_i32_803 : BitVec 32 := 0#32
  let v991 : BitVec 1 := Scalar.cmpi .ne v990 c0_i32_803
  let v995 : BitVec 1 := Scalar.andi v994 v991
  let v996 : BitVec 32 := Scalar.addi v990 v989
  let v997 : BitVec 32 := Scalar.select v995 v996 v990
  let c1_i32_812 : BitVec 32 := 1#32
  let v1000 : BitVec 32 := Scalar.muli v997 c1_i32_812
  let v1001 : BitVec 32 := Scalar.addi c0_i32_813 v1000
  v1001.toNat
def k0_dev35 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_816 : BitVec 32 := 7#32
  let v1008 : BitVec 32 := Scalar.addi v2 c7_i32_816
  let c8_i32_817 : BitVec 32 := 8#32
  let c0_i32_818 : BitVec 32 := 0#32
  let v1009 : BitVec 1 := Scalar.cmpi .eq c8_i32_817 c0_i32_818
  let c1_i32_819 : BitVec 32 := 1#32
  let v1010 : BitVec 32 := Scalar.select v1009 c1_i32_819 c8_i32_817
  let v1011 : BitVec 32 := Scalar.remsi v1008 v1010
  let c0_i32_821 : BitVec 32 := 0#32
  let v1013 : BitVec 1 := Scalar.cmpi .slt v1011 c0_i32_821
  let c0_i32_822 : BitVec 32 := 0#32
  let v1014 : BitVec 1 := Scalar.cmpi .slt v1010 c0_i32_822
  let v1015 : BitVec 1 := Scalar.xori v1013 v1014
  let c0_i32_820 : BitVec 32 := 0#32
  let v1012 : BitVec 1 := Scalar.cmpi .ne v1011 c0_i32_820
  let v1016 : BitVec 1 := Scalar.andi v1015 v1012
  let v1017 : BitVec 32 := Scalar.addi v1011 v1010
  let v1018 : BitVec 32 := Scalar.select v1016 v1017 v1011
  let c1_i32_829 : BitVec 32 := 1#32
  let v1021 : BitVec 32 := Scalar.muli v1018 c1_i32_829
  let v1022 : BitVec 32 := Scalar.addi c0_i32_830 v1021
  v1022.toNat
def k0_off10 (d0 : Dev nD) (c1_i32_970 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_969 : BitVec 32 := 8#32
  let v1108 : BitVec 32 := Scalar.addi v2 c8_i32_969
  let v1109 : BitVec 32 := Scalar.subi v1108 c1_i32_970
  let c8_i32_971 : BitVec 32 := 8#32
  let c0_i32_972 : BitVec 32 := 0#32
  let v1110 : BitVec 1 := Scalar.cmpi .eq c8_i32_971 c0_i32_972
  let c1_i32_973 : BitVec 32 := 1#32
  let v1111 : BitVec 32 := Scalar.select v1110 c1_i32_973 c8_i32_971
  let v1112 : BitVec 32 := Scalar.remsi v1109 v1111
  let c0_i32_975 : BitVec 32 := 0#32
  let v1114 : BitVec 1 := Scalar.cmpi .slt v1112 c0_i32_975
  let c0_i32_976 : BitVec 32 := 0#32
  let v1115 : BitVec 1 := Scalar.cmpi .slt v1111 c0_i32_976
  let v1116 : BitVec 1 := Scalar.xori v1114 v1115
  let c0_i32_974 : BitVec 32 := 0#32
  let v1113 : BitVec 1 := Scalar.cmpi .ne v1112 c0_i32_974
  let v1117 : BitVec 1 := Scalar.andi v1116 v1113
  let v1118 : BitVec 32 := Scalar.addi v1112 v1111
  let v1119 : BitVec 32 := Scalar.select v1117 v1118 v1112
  let c64_i32_977 : BitVec 32 := 64#32
  let v1120 : BitVec 32 := Scalar.muli v1119 c64_i32_977
  let v1121 : Index := Scalar.indexCast v1120
  let c0_978 : Index := 0#32
  ![v1121.toNat, 0]
def k0_off11 (d0 : Dev nD) (c1_i32_1110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1109 : BitVec 32 := 8#32
  let v1283 : BitVec 32 := Scalar.addi v2 c8_i32_1109
  let v1284 : BitVec 32 := Scalar.subi v1283 c1_i32_1110
  let c8_i32_1111 : BitVec 32 := 8#32
  let c0_i32_1112 : BitVec 32 := 0#32
  let v1285 : BitVec 1 := Scalar.cmpi .eq c8_i32_1111 c0_i32_1112
  let c1_i32_1113 : BitVec 32 := 1#32
  let v1286 : BitVec 32 := Scalar.select v1285 c1_i32_1113 c8_i32_1111
  let v1287 : BitVec 32 := Scalar.remsi v1284 v1286
  let c0_i32_1115 : BitVec 32 := 0#32
  let v1289 : BitVec 1 := Scalar.cmpi .slt v1287 c0_i32_1115
  let c0_i32_1116 : BitVec 32 := 0#32
  let v1290 : BitVec 1 := Scalar.cmpi .slt v1286 c0_i32_1116
  let v1291 : BitVec 1 := Scalar.xori v1289 v1290
  let c0_i32_1114 : BitVec 32 := 0#32
  let v1288 : BitVec 1 := Scalar.cmpi .ne v1287 c0_i32_1114
  let v1292 : BitVec 1 := Scalar.andi v1291 v1288
  let v1293 : BitVec 32 := Scalar.addi v1287 v1286
  let v1294 : BitVec 32 := Scalar.select v1292 v1293 v1287
  let c64_i32_1117 : BitVec 32 := 64#32
  let v1295 : BitVec 32 := Scalar.muli v1294 c64_i32_1117
  let v1296 : Index := Scalar.indexCast v1295
  let c256_1118 : Index := 256#32
  ![v1296.toNat, 256]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Values.lean ====
/-
# The blocks of the kernel's buffers and the values they hold

Eight devices share one matrix product by splitting its contracted axis. Device `c` holds 256 columns of the left
factor and 256 rows of the right one. For every block of 64 rows it multiplies its share, rounds the product to
bf16 and sends it to the device that sums this block; that device adds the eight shares, and the sums are then
passed to every device.

This module names the rectangles the kernel reads and writes, says which elements they hold, and defines what each
buffer holds once the kernel has filled it, as functions of all devices' factors `A` and `B`. Nothing here speaks of
the program's execution.
-/
module

public import proofs.«01_k».proof.Proof.Gen.KernelIdeal
public import proofs.«01_k».proof.Proof.Gen.KernelIdeal.Skeleton
public import Idealize.ShloMosaic.Lib.ValueIdxCore
public import Idealize.ShloMosaic.Lib.ValueLayout

@[expose] public section

noncomputable section

namespace Cert.KProof

open Cert.KernelIdeal Cert.KernelIdeal.Gen
open Idealize.ShloMosaic
open Idealize.ShloMosaic.ValueIdx

variable {F : FTy → Type} [FloatOps F]

/-! ## Devices at a distance -/

/-- The device `s` places after `c` in the cyclic order. -/
def rot (c : Dev nD) (s : Fin 8) : Dev nD := ⟨(c.val + s.val) % 8, Nat.mod_lt _ (by decide)⟩
/-- The device `s` places before `c` in the cyclic order. -/
def bak (c : Dev nD) (s : Fin 8) : Dev nD := ⟨(c.val + 8 - s.val) % 8, Nat.mod_lt _ (by decide)⟩

/-- Going `s` places on and `s` places back returns. -/
theorem bak_rot (c : Dev nD) (s : Fin 8) : bak (rot c s) s = c := by revert c s; decide
/-- Going `s` places back and `s` places on returns. -/
theorem rot_bak (c : Dev nD) (s : Fin 8) : rot (bak c s) s = c := by revert c s; decide
/-- No places on is the device itself. -/
theorem rot_zero (c : Dev nD) : rot c 0 = c := by revert c; decide
/-- No places back is the device itself. -/
theorem bak_zero (c : Dev nD) : bak c 0 = c := by revert c; decide
/-- Going `k + 1` places on and then `8 - (k + 1)` places on returns to the start. -/
theorem rot_rot_rev (c : Dev nD) (k : Fin 7) : rot (rot c k.succ) k.rev.succ = c := by revert c k; decide
/-- Different distances lead to different devices. -/
theorem rot_inj (c : Dev nD) {s t : Fin 8} (h : rot c s = rot c t) : s = t := by revert c s t; decide
/-- `d` is `s` places before `c` when `c` is `s` places after `d`. -/
theorem bak_eq_iff (c d : Dev nD) (s : Fin 8) : bak c s = d ↔ c = rot d s := by revert c d s; decide

/-- The distances from `c` enumerate the devices after it. -/
def rotE (c : Dev nD) : Fin 8 ≃ Dev nD where
  toFun s := rot c s
  invFun d := ⟨(d.val + 8 - c.val) % 8, Nat.mod_lt _ (by decide)⟩
  left_inv s := by revert c s; decide
  right_inv d := by revert c d; decide
/-- The distances from `c` enumerate the devices before it. -/
def bakE (c : Dev nD) : Fin 8 ≃ Dev nD where
  toFun s := bak c s
  invFun d := ⟨(c.val + 8 - d.val) % 8, Nat.mod_lt _ (by decide)⟩
  left_inv s := by revert c s; decide
  right_inv d := by revert c d; decide

/-! ## The rectangles -/

/-- Eight blocks of 64 rows fit into the left factor. -/
theorem inbA : ∀ (r : Dev nD) (a : Fin 2), (![64 * r.val, 0] : Fin 2 → Nat) a + S64x256.size a ≤ S512x256.size a := by decide
/-- Eight blocks of 64 rows fit into a 512 by 512 buffer. -/
theorem inbR : ∀ (r : Dev nD) (a : Fin 2), (![64 * r.val, 0] : Fin 2 → Nat) a + S64x512.size a ≤ S512x512.size a := by decide
/-- So do the two halves of each. -/
theorem inbP : ∀ (r : Dev nD) (q : Fin 2) (a : Fin 2), (![64 * r.val, 256 * q.val] : Fin 2 → Nat) a + S64x256.size a ≤ S512x512.size a := by decide
/-- The slots and halves fit into the landing buffer. -/
theorem inbS : ∀ (s : Fin 8) (q : Fin 2) (a : Fin 3), (![s.val, 0, 256 * q.val] : Fin 3 → Nat) a + S1x64x256.size a ≤ S8x64x512.size a := by decide

/-- Block `r` of 64 rows of the left factor. -/
abbrev rA (r : Dev nD) : Rect S512x256 := Rect.unit (s := S512x256) ![64 * r.val, 0] S64x256.size (inbA r)
/-- Block `r` of 64 rows of a 512 by 512 buffer. -/
abbrev rR (r : Dev nD) : Rect S512x512 := Rect.unit (s := S512x512) ![64 * r.val, 0] S64x512.size (inbR r)
/-- Half `q` of block `r` of rows: columns `256 q` to `256 q + 255`. -/
abbrev rP (r : Dev nD) (q : Fin 2) : Rect S512x512 := Rect.unit (s := S512x512) ![64 * r.val, 256 * q.val] S64x256.size (inbP r q)
/-- Half `q` of slot `s` of the landing buffer. -/
abbrev rS (s : Fin 8) (q : Fin 2) : Rect S8x64x512 := Rect.unit (s := S8x64x512) ![s.val, 0, 256 * q.val] S1x64x256.size (inbS s q)

/-- An element is in block `r` of rows when its row, divided by 64, is `r`. -/
theorem mem_rR (r : Dev nD) (i : S512x512.Idx) : i ∈ (rR r).set ↔ (i 0).val / 64 = r.val := by
  rw [Rect.mem_set_unit]
  have h0 : (i 0).val < 512 := (i 0).isLt
  have h1 : (i 1).val < 512 := (i 1).isLt
  constructor
  · intro h
    have := h 0
    simp only [Matrix.cons_val_zero] at this
    have h2 : S64x512.size 0 = 64 := rfl
    omega
  · intro h a
    have h2 : S64x512.size 0 = 64 := rfl
    have h3 : S64x512.size 1 = 512 := rfl
    match a with
    | ⟨0, _⟩ => show 64 * r.val ≤ (i 0).val ∧ (i 0).val < 64 * r.val + 64; omega
    | ⟨1, _⟩ => show 0 ≤ (i 1).val ∧ (i 1).val < 0 + 512; omega

/-- It is in half `q` of the block when moreover its column, divided by 256, is `q`. -/
theorem mem_rP (r : Dev nD) (q : Fin 2) (i : S512x512.Idx) : i ∈ (rP r q).set ↔ (i 0).val / 64 = r.val ∧ (i 1).val / 256 = q.val := by
  rw [Rect.mem_set_unit]
  constructor
  · intro h
    have h0 : 64 * r.val ≤ (i 0).val ∧ (i 0).val < 64 * r.val + 64 := h 0
    have h1 : 256 * q.val ≤ (i 1).val ∧ (i 1).val < 256 * q.val + 256 := h 1
    omega
  · intro h a
    match a with
    | ⟨0, _⟩ => show 64 * r.val ≤ (i 0).val ∧ (i 0).val < 64 * r.val + 64; omega
    | ⟨1, _⟩ => show 256 * q.val ≤ (i 1).val ∧ (i 1).val < 256 * q.val + 256; omega

/-- An element is in half `q` of slot `s` when its first coordinate is `s` and its column, divided by 256, is `q`. -/
theorem mem_rS (s : Fin 8) (q : Fin 2) (i : S8x64x512.Idx) : i ∈ (rS s q).set ↔ (i 0).val = s.val ∧ (i 2).val / 256 = q.val := by
  rw [Rect.mem_set_unit]
  have hi : (i 1).val < 64 := (i 1).isLt
  constructor
  · intro h
    have h0 : s.val ≤ (i 0).val ∧ (i 0).val < s.val + 1 := h 0
    have h1 : 256 * q.val ≤ (i 2).val ∧ (i 2).val < 256 * q.val + 256 := h 2
    omega
  · intro h a
    match a with
    | ⟨0, _⟩ => show s.val ≤ (i 0).val ∧ (i 0).val < s.val + 1; omega
    | ⟨1, _⟩ => show 0 ≤ (i 1).val ∧ (i 1).val < 0 + 64; omega
    | ⟨2, _⟩ => show 256 * q.val ≤ (i 2).val ∧ (i 2).val < 256 * q.val + 256; omega

/-- The two halves of a block of rows are disjoint. -/
theorem disjoint_halves (r : Dev nD) : Disjoint (rP r 0).set (rP r 1).set := by
  rw [Finset.disjoint_left]
  intro i h0 h1
  have := ((mem_rP r 0 i).mp h0).2
  rw [((mem_rP r 1 i).mp h1).2] at this
  exact absurd this (by decide)

/-- A block of rows is its two halves. -/
theorem rR_set (r : Dev nD) : (rR r).set = (rP r 0).set ∪ (rP r 1).set := by
  ext i
  rw [Finset.mem_union, mem_rR, mem_rP, mem_rP]
  have h1 : (i 1).val < 512 := (i 1).isLt
  have e0 : ((0 : Fin 2)).val = 0 := rfl
  have e1 : ((1 : Fin 2)).val = 1 := rfl
  omega

/-! ## The values -/

/-- The device numbered by a row's block. -/
def rowDev (i : S512x512.Idx) : Dev nD := ⟨(i 0).val / 64, by have h : (i 0).val < 512 := (i 0).isLt; show _ < 8; omega⟩
/-- The half a column lies in. -/
def colHalf (i : S512x512.Idx) : Fin 2 := ⟨(i 1).val / 256, by have h : (i 1).val < 512 := (i 1).isLt; omega⟩
/-- A row's number within its block. -/
def rowIn (i : S512x512.Idx) : Fin 64 := ⟨(i 0).val % 64, Nat.mod_lt _ (by decide)⟩
/-- A column's number within its half. -/
def colIn (i : S512x512.Idx) : Fin 256 := ⟨(i 1).val % 256, Nat.mod_lt _ (by decide)⟩
/-- Column `j` of half `q`. -/
def colOf (q : Fin 2) (j : Fin 256) : Fin 512 := ⟨256 * q.val + j.val, by omega⟩
/-- Row `x` of block `r`. -/
def rowOf (r : Dev nD) (x : Fin 64) : Fin 512 := ⟨64 * r.val + x.val, by have h : r.val < 8 := r.isLt; omega⟩

/-- The contents of a 512 by 512 buffer given block by block. -/
def ofBlocks {α : Type} (g : Dev nD → Fin 2 → S64x256.Idx → α) (i : S512x512.Idx) : α :=
  g (rowDev i) (colHalf i) (ix2 (rowIn i) (colIn i))

/-- An index of a matrix is a row and a column. -/
theorem exists_ix2 {m n : Nat} (j : (⟨2, ![m, n]⟩ : Shape).Idx) : ∃ (x : Fin m) (y : Fin n), j = ix2 x y := ⟨j 0, j 1, eq_ix2 j⟩

/-- Where an index of half `q` of block `r` lies in the buffer. -/
theorem emb_rP (r : Dev nD) (q : Fin 2) (x : Fin 64) (y : Fin 256) :
    (rP r q).emb (ix2 x y : S64x256.Idx) = (ix2 (rowOf r x) (colOf q y) : S512x512.Idx) := by
  funext a
  apply Fin.ext
  match a with
  | ⟨0, _⟩ => show 64 * r.val + 1 * x.val = 64 * r.val + x.val; omega
  | ⟨1, _⟩ => show 256 * q.val + 1 * y.val = 256 * q.val + y.val; omega

/-- Where an index of block `r` lies in the buffer. -/
theorem emb_rR (r : Dev nD) (x : Fin 64) (y : Fin 512) :
    (rR r).emb (ix2 x y : S64x512.Idx) = (ix2 (rowOf r x) y : S512x512.Idx) := by
  funext a
  apply Fin.ext
  match a with
  | ⟨0, _⟩ => show 64 * r.val + 1 * x.val = 64 * r.val + x.val; omega
  | ⟨1, _⟩ => show 0 + 1 * y.val = y.val; omega

/-- Where an index of half `q` of slot `s` lies in the landing buffer. -/
theorem emb_rS (s : Fin 8) (q : Fin 2) (z : Fin 1) (x : Fin 64) (y : Fin 256) :
    (rS s q).emb (ix3 z x y : S1x64x256.Idx) = (ix3 s x (colOf q y) : S8x64x512.Idx) := by
  funext a
  apply Fin.ext
  match a with
  | ⟨0, _⟩ => show s.val + 1 * z.val = s.val; omega
  | ⟨1, _⟩ => show 0 + 1 * x.val = x.val; omega
  | ⟨2, _⟩ => show 256 * q.val + 1 * y.val = 256 * q.val + y.val; omega

/-- Row `x` of block `r` is in block `r`. -/
theorem rowDev_ix2 (r : Dev nD) (x : Fin 64) (y : Fin 512) : rowDev (ix2 (rowOf r x) y) = r := by
  apply Fin.ext; show (64 * r.val + x.val) / 64 = r.val; omega
/-- Row `x` of block `r` has number `x` in it. -/
theorem rowIn_ix2 (r : Dev nD) (x : Fin 64) (y : Fin 512) : rowIn (ix2 (rowOf r x) y) = x := by
  apply Fin.ext; show (64 * r.val + x.val) % 64 = x.val; omega
/-- Column `y` of half `q` is in half `q`. -/
theorem colHalf_ix2 (x : Fin 512) (q : Fin 2) (y : Fin 256) : colHalf (ix2 x (colOf q y)) = q := by
  apply Fin.ext; show (256 * q.val + y.val) / 256 = q.val; omega
/-- Column `y` of half `q` has number `y` in it. -/
theorem colIn_ix2 (x : Fin 512) (q : Fin 2) (y : Fin 256) : colIn (ix2 x (colOf q y)) = y := by
  apply Fin.ext; show (256 * q.val + y.val) % 256 = y.val; omega
/-- An index is the row and column its parts name. -/
theorem ix2_parts (i : S512x512.Idx) : (ix2 (rowOf (rowDev i) (rowIn i)) (colOf (colHalf i) (colIn i)) : S512x512.Idx) = i := by
  funext a
  apply Fin.ext
  match a with
  | ⟨0, _⟩ => show 64 * ((i 0).val / 64) + (i 0).val % 64 = (i 0).val; omega
  | ⟨1, _⟩ => show 256 * ((i 1).val / 256) + (i 1).val % 256 = (i 1).val; omega

/-- The contents given block by block, read at one block. -/
theorem ofBlocks_emb {α : Type} (g : Dev nD → Fin 2 → S64x256.Idx → α) (r : Dev nD) (q : Fin 2) (j : S64x256.Idx) :
    ofBlocks g ((rP r q).emb j) = g r q j := by
  obtain ⟨x, y, rfl⟩ := exists_ix2 j
  rw [emb_rP]; unfold ofBlocks
  rw [rowDev_ix2, rowIn_ix2, colHalf_ix2, colIn_ix2]

section Contents

/- `A c` and `B c` are device `c`'s factors. -/
variable (A : Dev nD → S512x256.Idx → Elt F .f32) (B : Dev nD → S256x512.Idx → Elt F .f32)

/-- Block `r` of 64 rows of device `c`'s left factor. -/
def aRows (c r : Dev nD) : Vec F S64x256 .f32 := fun j => A c ((rA r).emb j)
/-- Device `c`'s share of block `r`, rounded to bf16. -/
def partBlk (c r : Dev nD) : Vec F S64x512 .bf16 := k0_pay1 (aRows A c r) (B c)
/-- Device `c`'s shares of all blocks. -/
def partVal (c : Dev nD) : S512x512.Idx → Elt F .bf16 := fun i => partBlk A B c (rowDev i) (ix2 (rowIn i) (i 1))
/-- What lands on device `c`: slot `s` holds the share of block `c` of the device `s` places before it. -/
def stagVal (c : Dev nD) : S8x64x512.Idx → Elt F .bf16 := fun i => partBlk A B (bak c (i 0)) c (ix2 (i 1) (i 2))
/-- Half `q` of slot `s` of it, as loaded. -/
def stagHalf (c : Dev nD) (q : Fin 2) (s : Fin 8) : Vec F S1x64x256 .bf16 := fun j => stagVal A B c ((rS s q).emb j)
/-- Adding one landed share to a running sum. -/
def addShare (x : FVec F S64x256 .f32) (s : Vec F S1x64x256 .bf16) : FVec F S64x256 .f32 :=
  addf x (extf .f32 (shapeCast S64x256 s shapeCasts_S1x64x256_S64x256 : FVec F S64x256 .bf16) bitsLt_bf16_f32)
/-- Device `c`'s own share of its own block, in f32. -/
def ownDot (c : Dev nD) : FVec F S64x512 .f32 := k0_pay11 (k0_pay10 (aRows A c c)) (B c)
/-- Half `q` of it. -/
def ownHalf (c : Dev nD) (q : Fin 2) : FVec F S64x256 .f32 :=
  match q with
  | ⟨0, _⟩ => extractStridedSlice S64x256 ![0, 0] (ownDot A B c) slices_S64x512_o0_0_S64x256
  | ⟨_ + 1, _⟩ => extractStridedSlice S64x256 ![0, 256] (ownDot A B c) slices_S64x512_o0_256_S64x256
/-- Half `q` of the sum of block `c`, as device `c` forms it. -/
def acc (c : Dev nD) (q : Fin 2) : FVec F S64x256 .f32 :=
  addShare (addShare (addShare (addShare (addShare (addShare (addShare (ownHalf A B c q) (stagHalf A B c q 1)) (stagHalf A B c q 2))
    (stagHalf A B c q 3)) (stagHalf A B c q 4)) (stagHalf A B c q 5)) (stagHalf A B c q 6)) (stagHalf A B c q 7)
/-- Half `q` of the sum of block `c`, rounded to bf16. -/
def gatBlk (c : Dev nD) (q : Fin 2) : FVec F S64x256 .bf16 :=
  shapeCast S64x256 (truncf .bf16 (acc A B c q) bitsLt_bf16_f32 : FVec F S64x256 .bf16) shapeCasts_S64x256_S64x256
/-- All the sums, rounded: the same on every device. -/
def gatVal : S512x512.Idx → Elt F .bf16 := ofBlocks (gatBlk A B)
/-- Half `q` of block `r` of device `c`'s result: its own block unrounded, the others as they came. -/
def outBlk (c r : Dev nD) (q : Fin 2) : FVec F S64x256 .f32 := if r = c then acc A B c q else k0_pay22 (gatBlk A B r q)
/-- Device `c`'s result. -/
def outVal (c : Dev nD) : S512x512.Idx → Elt F .f32 := ofBlocks (outBlk A B c)

/-- All shares, read at one block, are the share of the block. -/
theorem partVal_emb (c r : Dev nD) (j : S64x512.Idx) : partVal A B c ((rR r).emb j) = partBlk A B c r j := by
  obtain ⟨x, y, rfl⟩ := exists_ix2 j
  rw [emb_rR]; unfold partVal
  rw [rowDev_ix2, rowIn_ix2]
/-- The same by coordinates, at one half of a block. -/
theorem partVal_embP (c r : Dev nD) (q : Fin 2) (x : Fin 64) (y : Fin 256) :
    partVal A B c ((rP r q).emb (ix2 x y : S64x256.Idx)) = partBlk A B c r (ix2 x (colOf q y)) := by
  rw [emb_rP]; unfold partVal
  rw [rowDev_ix2, rowIn_ix2]
/-- All sums, read at one half of a block, are the sum of that half. -/
theorem gatVal_emb (r : Dev nD) (q : Fin 2) (j : S64x256.Idx) : gatVal A B ((rP r q).emb j) = gatBlk A B r q j := ofBlocks_emb _ r q j
/-- The result, read at one half of a block, is that half of the block. -/
theorem outVal_emb (c r : Dev nD) (q : Fin 2) (j : S64x256.Idx) : outVal A B c ((rP r q).emb j) = outBlk A B c r q j := ofBlocks_emb _ r q j
/-- What lands in half `q` of slot `s`, by coordinates. -/
theorem stagVal_emb (c : Dev nD) (s : Fin 8) (q : Fin 2) (z : Fin 1) (x : Fin 64) (y : Fin 256) :
    stagVal A B c ((rS s q).emb (ix3 z x y : S1x64x256.Idx)) = partBlk A B (bak c s) c (ix2 x (colOf q y)) := by
  rw [emb_rS]; rfl

/-- The kernel's first half sums, in the pieces it is printed in, are `acc`. -/
theorem acc_zero (c : Dev nD) :
    k0_pay14 (k0_pay13 (k0_pay12 (k0_pay10 (aRows A c c)) (B c) (stagHalf A B c 0 1) (stagHalf A B c 0 2)) (stagHalf A B c 0 3) (stagHalf A B c 0 4))
      (stagHalf A B c 0 5) (stagHalf A B c 0 6) (stagHalf A B c 0 7) = acc A B c 0 := rfl
/-- The kernel's second half sums, in the pieces it is printed in, are `acc`. -/
theorem acc_one (c : Dev nD) :
    k0_pay20 (k0_pay19 (k0_pay18 (k0_pay17 (k0_pay11 (k0_pay10 (aRows A c c)) (B c))) (stagHalf A B c 1 1) (stagHalf A B c 1 2))
      (stagHalf A B c 1 3) (stagHalf A B c 1 4) (stagHalf A B c 1 5)) (stagHalf A B c 1 6) (stagHalf A B c 1 7) = acc A B c 1 := rfl

end Contents

end Cert.KProof
-- ==== Proof.Common.lean ====
/-
# The protocol: cells, schedule, levels

Every device signals the seven others that it has entered the kernel and waits for seven signals. With its signal to a
device it hands over the two places that device will write: the slot of the landing buffer its shares go to, and the
rows of the gathered buffer its sums go to. Then come the two exchanges, 14 copies each, every copy with a send and a
receive semaphore of its own. All cells have one round. This module says who pays which cell, with what, and in what
order the cells may be awaited.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are numbered 0 to 6 -/

/-- The exchange's ghost state: rounds of at most seven duties. -/
abbrev UB : Type := URounds (GSem nD τ sig) (Fin 7)
/-- The pipeline's ghost state beside it. -/
abbrev UU : Type := UR sig nD τ × UB

local notation "𝕄" => MT nD τ sig Unit (Elt F) ℕ UU ℕ

/-- Where the pipeline's ghost state lies, -/
abbrev EP : Emb (UR sig nD τ) (MT nD τ sig Unit (Elt F) ℕ UU ℕ) := embL
/-- and where the exchange's does. -/
abbrev ER : Emb UB (MT nD τ sig Unit (Elt F) ℕ UU ℕ) := embR

/-! ## The cells -/

/-- The runtime's barrier semaphore. -/
abbrev barS : Sem sig := (SemArray.scalar (sig.barrier 0 rfl) : Sems sig S_).sem

/-- The transfer semaphores are numbered below 67. -/
theorem dsem_lt (a : Fin 4) (q : Fin 2) (s : Fin 8) : 3 + 16 * a.val + 8 * q.val + s.val < 67 := by omega
/-- The transfer semaphores: array `a` is 0 for the first exchange's sends, 1 for its receives, 2 and 3 for the
    second's; `q` is the half and `s` the distance. -/
abbrev dsem (a : Fin 4) (q : Fin 2) (s : Fin 8) : DmaSem sig := ⟨3 + 16 * a.val + 8 * q.val + s.val, dsem_lt a q s⟩

/-- A transfer semaphore's name from its number. -/
def dcode (s : DmaSem sig) : Option (Fin 4 × Fin 2 × Fin 8) :=
  if h : 3 ≤ s.val then
    some (⟨(s.val - 3) / 16, by have h : s.val < 67 := s.isLt; omega⟩, ⟨(s.val - 3) % 16 / 8, by omega⟩, ⟨(s.val - 3) % 8, by omega⟩)
  else none

/-- A transfer semaphore's place is read back from its number. -/
theorem dcode_dsem (a : Fin 4) (q : Fin 2) (s : Fin 8) : dcode (dsem a q s) = some (a, q, s) := by revert a q s; decide

/-- A device's cells: the barrier, and the transfer semaphores by array, half and distance. -/
abbrev CI : Type := Option (Fin 4 × Fin 2 × Fin 8)
/-- The semaphores of the exchange as the kernel's own ones, and with the barrier among them. -/
abbrev osem : Fin 4 × Fin 2 × Fin 8 → SemLoc sig := fun x => .dma (dsem x.1 x.2.1 x.2.2)
/-- The semaphore of a cell, -/
abbrev csem : CI → SemLoc sig := fun | none => .reg barS | some x => osem x
/-- and the cell as one of a device. -/
abbrev kcell (ck : Dev nD × CI) : GSem nD τ sig := ((ck.1 : Thread nD τ), csem ck.2)
/-- Device `c`'s barrier. -/
abbrev barCell (c : Dev nD) : GSem nD τ sig := ((c : Thread nD τ), .reg barS)
/-- Device `c`'s transfer semaphore of array `a`, half `q`, distance `s`. -/
abbrev xCell (c : Dev nD) (a : Fin 4) (q : Fin 2) (s : Fin 8) : GSem nD τ sig := ((c : Thread nD τ), .dma (dsem a q s))

/-! ## The buffers' points-to facts -/

section Pts
omit [FloatOps F]

/-- The shares' buffer, at elements `S`. -/
def partP (c : Dev nD) (S : Finset S512x512.Idx) (f : S512x512.Idx → Elt F .bf16) : sProp 𝕄 :=
  ((c : Thread nD τ).loc cc0_scratch0) ↦[S]{fullShare} f
/-- The landing buffer, at elements `S`. -/
def stagP (c : Dev nD) (S : Finset S8x64x512.Idx) (f : S8x64x512.Idx → Elt F .bf16) : sProp 𝕄 :=
  ((c : Thread nD τ).loc cc0_scratch1) ↦[S]{fullShare} f
/-- The gathered buffer, at elements `S` and share `p`. -/
def gatP (c : Dev nD) (S : Finset S512x512.Idx) (p : PosShare TreeShare) (f : S512x512.Idx → Elt F .bf16) : sProp 𝕄 :=
  ((c : Thread nD τ).loc cc0_scratch2) ↦[S]{p} f

instance partP_storable (c : Dev nD) (S) (f) : BI.Storable (upEmb : UEmb _ 𝕄) (partP (F := F) c S f) := by unfold partP; infer_instance
instance stagP_storable (c : Dev nD) (S) (f) : BI.Storable (upEmb : UEmb _ 𝕄) (stagP (F := F) c S f) := by unfold stagP; infer_instance
instance gatP_storable (c : Dev nD) (S) (p) (f) : BI.Storable (upEmb : UEmb _ 𝕄) (gatP (F := F) c S p f) := by unfold gatP; infer_instance

/-- Half `q` of slot `s` of the landing buffer at some contents. -/
def stagAny (c : Dev nD) (s : Fin 8) (q : Fin 2) : sProp 𝕄 := iprop(∃ f, stagP c (rS s q).set f)
/-- Half `q` of block `r` of the gathered buffer at some contents. -/
def gatAny (c : Dev nD) (r : Dev nD) (q : Fin 2) : sProp 𝕄 := iprop(∃ f, gatP c (rP r q).set fullShare f)
/-- Block `r` of the shares' buffer at some contents. -/
def partAny (c : Dev nD) (r : Dev nD) : sProp 𝕄 := iprop(∃ f, partP c (rR r).set f)

instance stagAny_storable (c : Dev nD) (s) (q) : BI.Storable (upEmb : UEmb _ 𝕄) (stagAny (F := F) c s q) := by unfold stagAny; infer_instance
instance gatAny_storable (c : Dev nD) (r) (q) : BI.Storable (upEmb : UEmb _ 𝕄) (gatAny (F := F) c r q) := by unfold gatAny; infer_instance

end Pts

/-! ## The schedule -/

/-- What a block's copy counts. -/
abbrev N : ℕ := ((Memref.whole cc0_scratch0).slice (rP 0 0) (fun _ => rfl) : Memref sig .tc .vmem S64x256 .bf16).view.dmaCredit
/-- A copy pays its semaphores something. -/
theorem N_pos : 0 < N := View.dmaCredit_pos _ (by decide)

/-- Duty `d` of `c`'s barrier cell is paid by the device `d + 1` places after `c`: it hands over the slot of its landing
    buffer and the block of its gathered buffer that `c` writes. -/
def barPay (c : Dev nD) (d : Fin 7) : sProp 𝕄 :=
  iprop((stagAny (rot c d.succ) d.succ 0 ∗ stagAny (rot c d.succ) d.succ 1) ∗ (gatAny (rot c d.succ) c 0 ∗ gatAny (rot c d.succ) c 1))

instance barPay_storable (c : Dev nD) (d : Fin 7) : BI.Storable (upEmb : UEmb _ 𝕄) (barPay (F := F) c d) := by unfold barPay; infer_instance

/-- The share of its own sums a device lends to the copy over distance `s`. -/
def tok (s : Fin 8) : PosShare TreeShare := Transfers.shareTokN fullShare (s.val - 1)

section Sched
variable (A : Dev nD → S512x256.Idx → Elt F .f32) (B : Dev nD → S256x512.Idx → Elt F .f32)

/-- What a transfer cell's round delivers: the sender's source back, or the receiver's block filled. -/
def xPay (c : Dev nD) (x : Fin 4 × Fin 2 × Fin 8) : sProp 𝕄 :=
  match x with
  | (⟨0, _⟩, q, s) => partP c (rP (rot c s) q).set (partVal A B c)
  | (⟨1, _⟩, q, s) => stagP c (rS s q).set (stagVal A B c)
  | (⟨2, _⟩, q, s) => gatP c (rP c q).set (tok s) (gatVal A B)
  | (⟨_ + 3, _⟩, q, s) => gatP c (rP (bak c s) q).set fullShare (gatVal A B)

/-- What a duty pays with: for the barrier by payer, for a copy by its semaphore. -/
def payOf (c : Dev nD) (sm : SemLoc sig) (d : Fin 7) : sProp 𝕄 :=
  match sm with
  | .reg _ => barPay c d
  | .dma s => match dcode s with
    | some x => xPay A B c x
    | none => iprop(emp)

/-- The duties of a cell: seven signals at the barrier, one copy at a semaphore of a distance that is not 0. -/
def dutiesOf (sm : SemLoc sig) : Finset (Fin 7) :=
  match sm with
  | .reg _ => Finset.univ
  | .dma s => match dcode s with
    | some x => if x.2.2 = 0 then ∅ else {0}
    | none => ∅

/-- What a duty pays: 1 at the barrier, a copy its size. -/
def amountOf (sm : SemLoc sig) : ℕ := match sm with | .reg _ => 1 | .dma _ => N

/-- One round: the barrier cells have seven duties of one unit, the transfer cells of distance 1 to 7 one of a block's count. -/
def Rd : Rounds.Schedule (GSem nD τ sig) (Fin 7) 𝕄 where
  duties g r := if r = 0 ∧ g.1.2 = .tc then dutiesOf g.2 else ∅
  unitless _ := False
  amount g _ _ := amountOf g.2
  payload g _ d := payOf A B g.1.1 g.2 d
  amount_pos g _ _ _ := by
    rcases g with ⟨t, s | s⟩
    · exact Nat.one_pos
    · exact N_pos

instance xPay_storable (c : Dev nD) (x) : BI.Storable (upEmb : UEmb _ 𝕄) (xPay (F := F) A B c x) := by
  unfold xPay; split <;> infer_instance
instance payOf_storable (c : Dev nD) (sm) (d) : BI.Storable (upEmb : UEmb _ 𝕄) (payOf (F := F) A B c sm d) := by
  unfold payOf; (repeat' split) <;> infer_instance
instance Rd_payload_storable (g : GSem nD τ sig) (r : ℕ) (d : Fin 7) :
    BI.Storable (upEmb : UEmb _ 𝕄) ((Rd (F := F) A B).payload g r d) := by
  show BI.Storable upEmb (payOf A B g.1.1 g.2 d); infer_instance

variable (c : Dev nD)

/-- The barrier has seven duties, -/
theorem duties_bar : (Rd (F := F) A B).duties (barCell c) 0 = Finset.univ := by dsimp only [Rd]; exact if_pos ⟨rfl, rfl⟩
/-- a transfer semaphore one, -/
theorem duties_x (a : Fin 4) (q : Fin 2) (k : Fin 7) : (Rd (F := F) A B).duties (xCell c a q k.succ) 0 = {0} := by
  dsimp only [Rd]; rw [if_pos ⟨rfl, rfl⟩]; unfold dutiesOf
  simp only [dcode_dsem]; exact if_neg (Fin.succ_ne_zero k)
/-- at distance 0 none, -/
theorem duties_x0 (a : Fin 4) (q : Fin 2) (r : ℕ) : (Rd (F := F) A B).duties (xCell c a q 0) r = ∅ := by
  dsimp only [Rd]; split
  · unfold dutiesOf; simp only [dcode_dsem]; exact if_pos trivial
  · rfl
/-- and there is only one round. -/
theorem duties_later (g : GSem nD τ sig) : ∀ r, 1 ≤ r → (Rd (F := F) A B).duties g r = ∅ :=
  fun r hr => by dsimp only [Rd]; exact if_neg fun h => by omega
/-- The barrier is paid 7, -/
theorem expect_bar : (Rd (F := F) A B).expect (barCell c) 0 = 7 := by
  unfold Schedule.expect Schedule.amountOf
  rw [duties_bar]
  show ∑ _d : Fin 7, 1 = 7
  rfl
/-- a transfer semaphore the size of a copy. -/
theorem expect_x (a : Fin 4) (q : Fin 2) (k : Fin 7) : (Rd (F := F) A B).expect (xCell c a q k.succ) 0 = N := by
  unfold Schedule.expect Schedule.amountOf; rw [duties_x, Finset.sum_singleton]; rfl
/-- What a signal at the barrier hands over, -/
theorem payload_bar (d : Fin 7) : (Rd (F := F) A B).payload (barCell c) 0 d = barPay c d := rfl
/-- and what a copy does. -/
theorem payload_x (a : Fin 4) (q : Fin 2) (s : Fin 8) (d : Fin 7) : (Rd (F := F) A B).payload (xCell c a q s) 0 d = xPay A B c (a, q, s) := by
  show payOf A B c (.dma (dsem a q s)) d = _
  unfold payOf; simp only [dcode_dsem]
/-- What a wait at the barrier takes, -/
theorem rest_bar : bigSep ((Rd (F := F) A B).duties (barCell c) 0 \ ∅) (fun d => (Rd (F := F) A B).payload (barCell c) 0 d)
    = bigSep Finset.univ (fun d : Fin 7 => barPay c d) := by
  rw [Finset.sdiff_empty, duties_bar]; rfl
/-- and what a wait for a copy takes. -/
theorem rest_x (a : Fin 4) (q : Fin 2) (k : Fin 7) :
    bigSep ((Rd (F := F) A B).duties (xCell c a q k.succ) 0 \ ∅) (fun d => (Rd (F := F) A B).payload (xCell c a q k.succ) 0 d)
      = xPay A B c (a, q, k.succ) := by
  rw [Finset.sdiff_empty, duties_x, bigSep_singleton, payload_x]

end Sched

/-! ## What a device owes -/

/-- The order in which the 14 copies of an exchange are made. -/
def rk (p : Fin 2 × Fin 7) : ℕ := 7 * p.1.val + p.2.val
/-- The order of the copies tells them apart. -/
theorem rk_inj : Function.Injective rk := by decide
/-- There are 14 of them. -/
theorem rk_lt (p : Fin 2 × Fin 7) : rk p < 14 := by revert p; decide

/-- A sum over the entries ranked `n` or later, the entry ranked `n` split off. -/
theorem sum_peel {ι M : Type} [Fintype ι] [DecidableEq ι] [AddCommMonoid M] {r : ι → ℕ} (hr : Function.Injective r) (f : ι → M) (p : ι) (n : ℕ) (hn : r p = n) :
    ∑ x ∈ Finset.univ.filter (fun x => n ≤ r x), f x = ∑ x ∈ Finset.univ.filter (fun x => n + 1 ≤ r x), f x + f p := by
  have : Finset.univ.filter (fun x => n ≤ r x) = insert p (Finset.univ.filter (fun x => n + 1 ≤ r x)) := by
    ext x
    simp only [Finset.mem_filter, Finset.mem_univ, true_and, Finset.mem_insert]
    constructor
    · intro h
      by_cases hx : x = p
      · exact .inl hx
      · right
        have : r x ≠ n := fun h' => hx (hr (h'.trans hn.symm))
        omega
    · rintro (rfl | h) <;> omega
  rw [this, Finset.sum_insert (by simp [hn]), add_comm]

/-- The barrier units still owed when `n` signals are sent, -/
def OB (c : Dev nD) (n : ℕ) : CellTallies nD τ sig Unit :=
  ∑ k ∈ Finset.univ.filter (fun k : Fin 7 => n ≤ k.val), tallyAt (barCell (rot c k.succ)) () 1
/-- and the receive credits of array `a` still owed when `n` copies are made. -/
def OX (a : Fin 4) (c : Dev nD) (n : ℕ) : CellTallies nD τ sig Unit :=
  ∑ p ∈ Finset.univ.filter (fun p : Fin 2 × Fin 7 => n ≤ rk p), tallyAt (xCell (rot c p.2.succ) a p.1 p.2.succ) () N
/-- All that is owed after `n1` signals, `n2` copies of the first and `n3` of the second exchange. -/
def OW (c : Dev nD) (n1 n2 n3 : ℕ) : CellTallies nD τ sig Unit := OB c n1 + OX 1 c n2 + OX 3 c n3

/-- What is owed to the barriers, the next signal taken out. -/
theorem OB_peel (c : Dev nD) (k : Fin 7) (n : ℕ) (hk : k.val = n) : OB c n = OB c (n + 1) + tallyAt (barCell (rot c k.succ)) () 1 :=
  sum_peel (fun _ _ => Fin.ext) _ k n hk
/-- What is owed to the receive semaphores of an exchange, the next copy taken out. -/
theorem OX_peel (a : Fin 4) (c : Dev nD) (p : Fin 2 × Fin 7) (n : ℕ) (hp : rk p = n) :
    OX a c n = OX a c (n + 1) + tallyAt (xCell (rot c p.2.succ) a p.1 p.2.succ) () N :=
  sum_peel rk_inj _ p n hp
/-- All that is owed, the next signal taken out, -/
theorem OW_signal (c : Dev nD) (k : Fin 7) (n : ℕ) (hk : k.val = n) (n2 n3 : ℕ) :
    OW c n n2 n3 = OW c (n + 1) n2 n3 + tallyAt (barCell (rot c k.succ)) () 1 := by
  unfold OW; rw [OB_peel c k n hk, add_right_comm (OB c (n + 1)), add_right_comm (OB c (n + 1) + OX 1 c n2)]
/-- the next copy of the first exchange, -/
theorem OW_first (c : Dev nD) (p : Fin 2 × Fin 7) (n : ℕ) (hp : rk p = n) (n1 n3 : ℕ) :
    OW c n1 n n3 = OW c n1 (n + 1) n3 + tallyAt (xCell (rot c p.2.succ) 1 p.1 p.2.succ) () N := by
  unfold OW; rw [OX_peel 1 c p n hp, ← add_assoc, add_right_comm]
/-- or the next copy of the second. -/
theorem OW_second (c : Dev nD) (p : Fin 2 × Fin 7) (n : ℕ) (hp : rk p = n) (n1 n2 : ℕ) :
    OW c n1 n2 n = OW c n1 n2 (n + 1) + tallyAt (xCell (rot c p.2.succ) 3 p.1 p.2.succ) () N := by
  unfold OW; rw [OX_peel 3 c p n hp, ← add_assoc]
/-- Nothing is owed at the end. -/
theorem OW_end (c : Dev nD) : OW c 7 14 14 = 0 := by
  have h1 : OB c 7 = 0 := by
    unfold OB; exact Finset.sum_eq_zero fun k hk => absurd (Finset.mem_filter.mp hk).2 (by omega)
  have h2 (a) : OX a c 14 = 0 := by
    unfold OX; exact Finset.sum_eq_zero fun p hp => absurd (Finset.mem_filter.mp hp).2 (by have := rk_lt p; omega)
  unfold OW; rw [h1, h2, h2, add_zero, add_zero]

/-! ## The levels: the barrier below the first exchange's receives below the second's; all else lowest -/

/-- The cells of a TensorCore have one kind of unit, others none. -/
def L (g : GSem nD τ sig) : Finset Unit := if g.1.2 = .tc then {()} else ∅
/-- A semaphore's level: what is awaited later has a higher one. -/
def lvOf (sm : SemLoc sig) : ℕ :=
  match sm with
  | .reg _ => 1
  | .dma s => match dcode s with
    | some (⟨1, _⟩, _, _) => 2
    | some (⟨3, _⟩, _, _) => 3
    | _ => 0
/-- A cell's level is its semaphore's. -/
def lv (g : GSem nD τ sig) (_ : Unit) : ℕ := lvOf g.2

/-- Other cells have no units. -/
theorem L_of_ne (g : GSem nD τ sig) (h : g.1.2 ≠ .tc) : L g = ∅ := if_neg h
/-- A TensorCore's cells have them. -/
theorem L_tc (c : Dev nD) (sm : SemLoc sig) : L ((c : Thread nD τ), sm) = {()} := if_pos rfl

/-- The level of a transfer semaphore: 2 and 3 for the receives of the two exchanges, 0 for the sends. -/
theorem lvOf_x (a : Fin 4) (q : Fin 2) (s : Fin 8) : lvOf (.dma (dsem a q s)) = if a = 1 then 2 else if a = 3 then 3 else 0 := by
  unfold lvOf; simp only [dcode_dsem]; revert a q s; decide

/-- A sum that owes a cell something has a member that does. -/
theorem sum_pos {ι : Type} (s : Finset ι) (f : ι → CellTallies nD τ sig Unit) (g : GSem nD τ sig) (u : Unit) (h : 0 < (∑ x ∈ s, f x) g u) :
    ∃ x ∈ s, 0 < f x g u := by
  by_contra hn
  push Not at hn
  rw [Finset.sum_apply, Finsupp.finset_sum_apply, Finset.sum_eq_zero fun x hx => Nat.le_zero.mp (hn x hx)] at h
  exact Nat.lt_irrefl 0 h

/-- What owes a cell something by one tally owes it to that cell. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- Every cell owed is on a device's own core, and of a level no lower than what is left to do allows. -/
theorem OW_pos {c : Dev nD} {n1 n2 n3 : ℕ} {g : GSem nD τ sig} {u : Unit} (h : 0 < OW c n1 n2 n3 g u) :
    g.1.2 = .tc ∧ ((n1 < 7 ∧ lvOf g.2 = 1) ∨ (n2 < 14 ∧ lvOf g.2 = 2) ∨ (n3 < 14 ∧ lvOf g.2 = 3)) := by
  unfold OW at h
  rw [Pi.add_apply, Finsupp.add_apply, Pi.add_apply, Finsupp.add_apply] at h
  have h3 : 0 < OB c n1 g u ∨ 0 < OX 1 c n2 g u ∨ 0 < OX 3 c n3 g u := by omega
  rcases h3 with h | h | h
  · obtain ⟨k, hk, hp⟩ := sum_pos _ _ g u h
    have := tally_pos hp; subst this
    exact ⟨rfl, .inl ⟨by have := (Finset.mem_filter.mp hk).2; omega, rfl⟩⟩
  · obtain ⟨p, hk, hp⟩ := sum_pos _ _ g u h
    have := tally_pos hp; subst this
    exact ⟨rfl, .inr (.inl ⟨by have := (Finset.mem_filter.mp hk).2; have := rk_lt p; omega, lvOf_x _ _ _⟩)⟩
  · obtain ⟨p, hk, hp⟩ := sum_pos _ _ g u h
    have := tally_pos hp; subst this
    exact ⟨rfl, .inr (.inr ⟨by have := (Finset.mem_filter.mp hk).2; have := rk_lt p; omega, lvOf_x _ _ _⟩)⟩

/-- A cell may be awaited once everything at or below its level is paid. -/
theorem mayWait (c : Dev nD) (sm : SemLoc sig) (n1 n2 n3 : ℕ) (h1 : lvOf sm < 1 ∨ 7 ≤ n1) (h2 : lvOf sm < 2 ∨ 14 ≤ n2) (h3 : lvOf sm < 3 ∨ 14 ≤ n3) :
    (levAts L lv : sProp 𝕄) ⊢ MayWait (c : Thread nD τ) sm () (OW c n1 n2 n3) :=
  MayOwe.of_cut (L := L) (lev := lv) (lvOf sm) (fun p hp => by rw [Finset.mem_singleton.mp hp, L_tc]; exact Finset.mem_singleton_self _)
    (fun g u hg => by
      show u ∈ (if g.1.2 = .tc then {()} else ∅)
      rw [if_pos (OW_pos hg).1]; exact Finset.mem_singleton_self _)
    (fun p hp => by rw [Finset.mem_singleton.mp hp]; exact le_rfl)
    (fun g u hg => by
      show lvOf sm < lvOf g.2
      rcases (OW_pos hg).2 with ⟨h, e⟩ | ⟨h, e⟩ | ⟨h, e⟩ <;> omega)

end Cert.KProof
-- ==== Proof.Tracks.lean ====
/-
# Families of facts that change one entry at a time

A device makes its copies and waits one by one. What it holds is kept as families over the copies, each entry in one of
three states by its rank against two counters; a step of the program takes one entry out in one state and puts it back
in the next. Stated once here for any family.
-/
module

public import proofs.«01_k».proof.Proof.Common

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M] {I : Type} [Fintype I] [DecidableEq I]

/-- One entry of a family is taken out, and the family closes again over any entry in its place. -/
theorem family_at {Φ Ψ : I → sProp M} (p : I) (h : ∀ x, x ≠ p → Φ x = Ψ x) :
    bigSep Finset.univ Φ ⊢ iprop(Φ p ∗ (Ψ p -∗ bigSep Finset.univ Ψ)) := by
  rw [bigSep_univ_at Φ p, bigSep_univ_at Ψ p,
    bigSep_congr (s := Finset.univ.erase p) (Φ := Φ) (Ψ := Ψ) fun x hx => h x (Finset.ne_of_mem_erase hx)]
  iintro ⟨H1, H2⟩
  isplitl [H1]; · iexact H1
  iintro H3
  isplitl [H3]; · iexact H3
  iexact H2

/-- One entry of a family is taken out to be put back. -/
theorem family_get (Φ : I → sProp M) (p : I) : bigSep Finset.univ Φ ⊢ iprop(Φ p ∗ (Φ p -∗ bigSep Finset.univ Φ)) :=
  family_at p fun _ _ => rfl

/-- A family in three states: entries ranked below `m` in state `C`, the others below `n` in state `B`, the rest in `A`. -/
def trk (r : I → ℕ) (A B C : I → sProp M) (n m : ℕ) : sProp M :=
  bigSep Finset.univ fun p => if r p < m then C p else if r p < n then B p else A p

variable {r : I → ℕ} (hr : Function.Injective r) {A B C : I → sProp M}

include hr in
/-- The entry ranked `n` goes from its first state to its second. -/
theorem trk_first (p : I) (n m : ℕ) (hp : r p = n) (hm : m ≤ n) : trk r A B C n m ⊢ iprop(A p ∗ (B p -∗ trk r A B C (n + 1) m)) := by
  have h := family_at (Φ := fun p => if r p < m then C p else if r p < n then B p else A p)
    (Ψ := fun p => if r p < m then C p else if r p < n + 1 then B p else A p) p fun x hx => by
      have hne : r x ≠ n := fun h => hx (hr (h.trans hp.symm))
      by_cases h1 : r x < m
      · rw [if_pos h1, if_pos h1]
      · rw [if_neg h1, if_neg h1]
        by_cases h2 : r x < n
        · rw [if_pos h2, if_pos (by omega)]
        · rw [if_neg h2, if_neg (by omega)]
  rw [if_neg (by omega), if_neg (by omega), if_neg (by omega), if_pos (by omega)] at h
  exact h

include hr in
/-- The entry ranked `m` goes from its second state to its third. -/
theorem trk_second (p : I) (n m : ℕ) (hp : r p = m) (hm : m < n) : trk r A B C n m ⊢ iprop(B p ∗ (C p -∗ trk r A B C n (m + 1))) := by
  have h := family_at (Φ := fun p => if r p < m then C p else if r p < n then B p else A p)
    (Ψ := fun p => if r p < m + 1 then C p else if r p < n then B p else A p) p fun x hx => by
      have hne : r x ≠ m := fun h => hx (hr (h.trans hp.symm))
      by_cases h1 : r x < m
      · rw [if_pos h1, if_pos (by omega)]
      · rw [if_neg h1, if_neg (show ¬ r x < m + 1 by omega)]
  rw [if_neg (by omega), if_pos (by omega), if_pos (by omega)] at h
  exact h

/-- An entry in its first state, to be put back. -/
theorem trk_getA (p : I) (n m : ℕ) (hp : n ≤ r p) (hm : m ≤ n) : trk r A B C n m ⊢ iprop(A p ∗ (A p -∗ trk r A B C n m)) := by
  have h := family_get (fun p => if r p < m then C p else if r p < n then B p else A p) p
  rw [if_neg (by omega), if_neg (by omega)] at h
  exact h
/-- An entry in its second state, to be put back. -/
theorem trk_getB (p : I) (n m : ℕ) (hp : r p < n) (hm : m ≤ r p) : trk r A B C n m ⊢ iprop(B p ∗ (B p -∗ trk r A B C n m)) := by
  have h := family_get (fun p => if r p < m then C p else if r p < n then B p else A p) p
  rw [if_neg (by omega), if_pos (by omega)] at h
  exact h

/-- A family all of whose entries are in their first state, -/
theorem trk_all_first (A B C : I → sProp M) : trk r A B C 0 0 = bigSep Finset.univ A := by
  unfold trk; exact bigSep_congr fun p _ => by rw [if_neg (by omega), if_neg (by omega)]
/-- their second, -/
theorem trk_all_second (A B C : I → sProp M) (n : ℕ) (hn : ∀ p, r p < n) : trk r A B C n 0 = bigSep Finset.univ B := by
  unfold trk; exact bigSep_congr fun p _ => by rw [if_neg (by omega), if_pos (hn p)]
/-- their third. -/
theorem trk_all_third (A B C : I → sProp M) (n m : ℕ) (hm : ∀ p, r p < m) : trk r A B C n m = bigSep Finset.univ C := by
  unfold trk; exact bigSep_congr fun p _ => by rw [if_pos (hm p)]

/-- A family of facts present once a group is ready and until the entry is used: entry `p` is there when its group
    number `g p` is below `t` and its rank not below `n`. -/
def avail (r g : I → ℕ) (B : I → sProp M) (t n : ℕ) : sProp M :=
  bigSep Finset.univ fun p => if n ≤ r p ∧ g p < t then B p else iprop(emp)

variable {g : I → ℕ}

include hr in
/-- The entry ranked `n` is used. -/
theorem avail_use (p : I) (t n : ℕ) (hp : r p = n) (hg : g p < t) : avail r g B t n ⊢ iprop(B p ∗ avail r g B t (n + 1)) := by
  have h := family_at (Φ := fun p => if n ≤ r p ∧ g p < t then B p else iprop(emp))
    (Ψ := fun p => if n + 1 ≤ r p ∧ g p < t then B p else iprop(emp)) p fun x hx => by
      have hne : r x ≠ n := fun h => hx (hr (h.trans hp.symm))
      by_cases h1 : n ≤ r x ∧ g x < t
      · rw [if_pos h1, if_pos ⟨by omega, h1.2⟩]
      · rw [if_neg h1, if_neg fun h => h1 ⟨by omega, h.2⟩]
  rw [if_pos ⟨by omega, hg⟩, if_neg (by omega)] at h
  unfold avail
  refine h.trans ?_
  iintro ⟨H1, H2⟩
  isplitl [H1]; · iexact H1
  iapply H2; iempintro

/-- Group `t` becomes ready: all its entries come at once. -/
theorem avail_ready (t n : ℕ) (hn : ∀ p, g p = t → n ≤ r p) :
    iprop(avail r g B t n ∗ bigSep Finset.univ (fun p => if g p = t then B p else iprop(emp))) ⊢ avail r g B (t + 1) n := by
  unfold avail
  rw [← bigSep_sep']
  refine bigSep_mono fun p _ => ?_
  by_cases h : g p = t
  · rw [if_neg (by omega), if_pos h, if_pos ⟨hn p h, by omega⟩]
    show iprop(emp ∗ B p) ⊢ B p
    iintro ⟨-, H⟩; iexact H
  · rw [if_neg h]
    by_cases h1 : n ≤ r p ∧ g p < t
    · rw [if_pos h1, if_pos ⟨h1.1, by omega⟩]
      show iprop(B p ∗ emp) ⊢ B p
      iintro ⟨H, -⟩; iexact H
    · rw [if_neg h1, if_neg fun h' => h1 ⟨h'.1, by omega⟩]
      show (iprop(emp ∗ emp) : sProp M) ⊢ iprop(emp)
      iintro ⟨H, -⟩; iexact H

/-- Of a family of which nothing is given yet, nothing is there; -/
theorem avail_none (n : ℕ) : avail r g B 0 n = iprop(emp) := by
  unfold avail
  exact (bigSep_congr fun p _ => if_neg (by omega)).trans (bigSep_emp_const _)
/-- neither is anything when all is used; -/
theorem avail_used (t n : ℕ) (hn : ∀ p, r p < n) : avail r g B t n = iprop(emp) := by
  unfold avail
  exact (bigSep_congr fun p _ => if_neg (by have := hn p; omega)).trans (bigSep_emp_const _)
/-- when all is given and nothing used, everything is. -/
theorem avail_all (t : ℕ) (ht : ∀ p, g p < t) : avail r g B t 0 = bigSep Finset.univ B := by
  unfold avail; exact bigSep_congr fun p _ => if_pos ⟨Nat.zero_le _, ht p⟩

end Cert.KProof
-- ==== Proof.Views.lean ====
/-
# What the kernel's accesses read and write

The kernel reads and writes its buffers through rectangles whose offsets it computes. Once an offset is known to be
that of a block, a load yields the block's values, a store or a landing copy leaves the block holding what it should,
and the set of elements touched is the block.
-/
module

public import proofs.«01_k».proof.Proof.Tracks

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The staged left factor, -/
abbrev aM : Memref sig .tc .vmem S512x256 .f32 := Memref.whole cc0_stg0_0
/-- the staged right factor, -/
abbrev bM : Memref sig .tc .vmem S256x512 .f32 := Memref.whole cc0_stg1_0
/-- the staged result, -/
abbrev oM : Memref sig .tc .vmem S512x512 .f32 := Memref.whole cc0_stg2_0
/-- the buffer of shares, -/
abbrev pM : Memref sig .tc .vmem S512x512 .bf16 := Memref.whole cc0_scratch0
/-- the landing buffer, -/
abbrev lM : Memref sig .tc .vmem S8x64x512 .bf16 := Memref.whole cc0_scratch1
/-- and the buffer of sums, each whole. -/
abbrev gM : Memref sig .tc .vmem S512x512 .bf16 := Memref.whole cc0_scratch2

/-- Half `q` of slot `s` of the landing buffer as a copy's end point. -/
abbrev lSl (s : Fin 8) (q : Fin 2) : Memref sig .tc .vmem S64x256 .bf16 :=
  (lM.slice (rS s q) (fun _ => rfl)).squeeze S64x256 squeezes_S1x64x256_S64x256
/-- Half `q` of block `r` of the shares' buffer as one, -/
abbrev pSl (r : Dev nD) (q : Fin 2) : Memref sig .tc .vmem S64x256 .bf16 := pM.slice (rP r q) (fun _ => rfl)
/-- and of the gathered buffer. -/
abbrev gSl (r : Dev nD) (q : Fin 2) : Memref sig .tc .vmem S64x256 .bf16 := gM.slice (rP r q) (fun _ => rfl)

/-- The elements of a copy's source in the buffer of shares, -/
theorem set_pSl (r : Dev nD) (q : Fin 2) : (pSl r q).view.set = (rP r q).set := View.set_slice_whole cc0_scratch0 (rP r q)
/-- of a copy in the buffer of sums, -/
theorem set_gSl (r : Dev nD) (q : Fin 2) : (gSl r q).view.set = (rP r q).set := View.set_slice_whole cc0_scratch2 (rP r q)
/-- and of a copy's destination in the landing buffer. -/
theorem set_lSl (s : Fin 8) (q : Fin 2) : (lSl s q).view.set = (rS s q).set :=
  (View.set_reshape ((View.whole cc0_scratch1).slice (rS s q)) _).trans (View.set_slice_whole cc0_scratch1 (rS s q))

variable (A : Dev nD → S512x256.Idx → Elt F .f32) (B : Dev nD → S256x512.Idx → Elt F .f32)

/-- A share copied over distance `s` fills its slot on the device it is for. -/
theorem land_first (c : Dev nD) (q : Fin 2) (s : Fin 8) (fd : S8x64x512.Idx → Elt F .bf16) (i : S8x64x512.Idx) (hi : i ∈ (rS s q).set) :
    (lSl s q).view.write (Elt F) fd ((pSl (rot c s) q).view.read (Elt F) (partVal A B c)) Finset.univ i = stagVal A B (rot c s) i := by
  rw [← set_lSl] at hi
  obtain ⟨x, -, rfl⟩ := Finset.mem_map.mp hi
  refine (View.write_emb_of_mem (v := (lSl s q).view) (Val := Elt F) fd _ (Finset.mem_univ x)).trans ?_
  obtain ⟨y, z, rfl⟩ := exists_ix2 x
  show partVal A B c ((rP (rot c s) q).emb (ix2 y z : S64x256.Idx)) = stagVal A B (rot c s) ((rS s q).emb (Shape.reshapeEquiv _ (ix2 y z)))
  rw [reshapeEquiv_ix2_1ab, stagVal_emb, bak_rot, partVal_embP]

/-- A sum copied to another device fills its place there. -/
theorem land_second (c : Dev nD) (q : Fin 2) (fd : S512x512.Idx → Elt F .bf16) (i : S512x512.Idx) (hi : i ∈ (rP c q).set) :
    (gSl c q).view.write (Elt F) fd ((gSl c q).view.read (Elt F) (gatVal A B)) Finset.univ i = gatVal A B i := by
  rw [← set_gSl] at hi
  obtain ⟨x, -, rfl⟩ := Finset.mem_map.mp hi
  exact (View.write_emb_of_mem (v := (gSl c q).view) (Val := Elt F) fd _ (Finset.mem_univ x)).trans rfl

/-- Offsets that are all zero. -/
theorem hz : (![0, 0] : Fin 2 → Nat) = fun _ => 0 := funext fun a => by fin_cases a <;> rfl

/-- The load of a block of rows of the left factor. -/
theorem read_a (c r : Dev nD) : (aM.view.readAt (Elt F) (rA r).toLoadRect (A c) : S64x256.Idx → Elt F .f32) = aRows A c r := rfl
/-- The load of the whole right factor. -/
theorem read_b (c : Dev nD) (inb) : (bM.view.readAt (Elt F) (Rect.unit (s := S256x512) ![0, 0] S256x512.size inb).toLoadRect (B c) : S256x512.Idx → Elt F .f32) = B c :=
  Memref.readAt_unit_zero (Elt F) cc0_stg1_0 hz _ _
/-- A load of half a landing slot gives the half that landed. -/
theorem read_stag (c : Dev nD) (s : Fin 8) (q : Fin 2) :
    (lM.view.readAt (Elt F) (rS s q).toLoadRect (stagVal A B c) : S1x64x256.Idx → Elt F .bf16) = stagHalf A B c q s := rfl
/-- A load of half a block of sums gives that half. -/
theorem read_gat (r : Dev nD) (q : Fin 2) :
    (gM.view.readAt (Elt F) (rP r q).toLoadRect (gatVal A B) : S64x256.Idx → Elt F .bf16) = gatBlk A B r q :=
  funext fun j => gatVal_emb A B r q j

/-- Storing a share leaves its block of rows holding it. -/
theorem store_part (c r : Dev nD) (f : S512x512.Idx → Elt F .bf16) (i : S512x512.Idx) (hi : i ∈ (rR r).set) :
    (pM.access (rR r)).write (Elt F) f (partBlk A B c r) Finset.univ i = partVal A B c i := by
  rw [← View.set_slice_whole cc0_scratch0 (rR r)] at hi
  obtain ⟨x, -, rfl⟩ := Finset.mem_map.mp hi
  exact (View.write_emb_of_mem (v := pM.access (rR r)) (Val := Elt F) f _ (Finset.mem_univ x)).trans (partVal_emb A B c r x).symm
/-- Storing a sum leaves its half block holding it. -/
theorem store_gat (r : Dev nD) (q : Fin 2) (f : S512x512.Idx → Elt F .bf16) (i : S512x512.Idx) (hi : i ∈ (rP r q).set) :
    (gM.access (rP r q)).write (Elt F) f (gatBlk A B r q) Finset.univ i = gatVal A B i := by
  rw [← View.set_slice_whole cc0_scratch2 (rP r q)] at hi
  obtain ⟨x, -, rfl⟩ := Finset.mem_map.mp hi
  exact (View.write_emb_of_mem (v := gM.access (rP r q)) (Val := Elt F) f _ (Finset.mem_univ x)).trans (gatVal_emb A B r q x).symm
/-- Storing a half block of the result leaves it right there, -/
theorem store_out_on (c r : Dev nD) (q : Fin 2) (f : S512x512.Idx → Elt F .f32) (i : S512x512.Idx) (hi : i ∈ (rP r q).set) :
    (oM.access (rP r q)).write (Elt F) f (outBlk A B c r q) Finset.univ i = outVal A B c i := by
  rw [← View.set_slice_whole cc0_stg2_0 (rP r q)] at hi
  obtain ⟨x, -, rfl⟩ := Finset.mem_map.mp hi
  exact (View.write_emb_of_mem (v := oM.access (rP r q)) (Val := Elt F) f _ (Finset.mem_univ x)).trans (outVal_emb A B c r q x).symm
/-- and unchanged elsewhere. -/
theorem store_out_off (c r : Dev nD) (q : Fin 2) (f : S512x512.Idx → Elt F .f32) (w : S64x256.Idx → Elt F .f32) (i : S512x512.Idx) (hi : i ∉ (rP r q).set) :
    (oM.access (rP r q)).write (Elt F) f w Finset.univ i = f i :=
  View.write_of_not_mem (v := oM.access (rP r q)) (Val := Elt F) f w Finset.univ fun h => hi (by
    have e : (oM.access (rP r q)).setOn Finset.univ = (rP r q).set := View.set_slice_whole cc0_stg2_0 (rP r q)
    rw [← e]; exact h)

/-- The place of an element of the result in the order in which device `c` writes it: its own two half blocks, then the
    first halves of the blocks 1 to 7 places before it, then the second halves. -/
def outOrd (c : Dev nD) (r : Dev nD) (q : Fin 2) : ℕ := if r = c then q.val else 1 + 7 * q.val + ((bakE c).symm r).val

/-- The two stores of a device's own block come first, -/
theorem outOrd_own (c : Dev nD) (q : Fin 2) : outOrd c c q = q.val := if_pos rfl
/-- the others in the order of the copies. -/
theorem outOrd_bak (c : Dev nD) (q : Fin 2) (k : Fin 7) : outOrd c (bak c k.succ) q = 2 + rk (q, k) := by revert c q k; decide
/-- The order tells the stores apart. -/
theorem outOrd_inj (c : Dev nD) {r r' : Dev nD} {q q' : Fin 2} (h : outOrd c r q = outOrd c r' q') : r = r' ∧ q = q' := by
  have h7 : ∀ s : Dev nD, ((bakE c).symm s).val < 8 := fun s => ((bakE c).symm s).isLt
  have h0 : ∀ s : Dev nD, s ≠ c → ((bakE c).symm s).val ≠ 0 := fun s hs h' => hs <| by
    rw [← (bakE c).apply_symm_apply s, show (bakE c).symm s = 0 from Fin.ext h']; exact bak_zero c
  unfold outOrd at h
  by_cases hr : r = c <;> by_cases hr' : r' = c
  · rw [if_pos hr, if_pos hr'] at h
    exact ⟨hr.trans hr'.symm, Fin.ext h⟩
  · rw [if_pos hr, if_neg hr'] at h
    have := h0 r' hr'; have := q.isLt; have := h7 r'; omega
  · rw [if_neg hr, if_pos hr'] at h
    have := h0 r hr; have := q'.isLt; have := h7 r; omega
  · rw [if_neg hr, if_neg hr'] at h
    have := h0 r hr; have := h0 r' hr'; have := h7 r; have := h7 r'
    exact ⟨(bakE c).symm.injective (Fin.ext (by omega)), Fin.ext (by omega)⟩
/-- There are 16 of them. -/
theorem outOrd_lt (c r : Dev nD) (q : Fin 2) : outOrd c r q < 16 := by revert c r q; decide

/-- The result's buffer is right at everything written so far. -/
def OutOK (c : Dev nD) (n : ℕ) (f : S512x512.Idx → Elt F .f32) : Prop :=
  ∀ i, outOrd c (rowDev i) (colHalf i) < n → f i = outVal A B c i

/-- One more half block written. -/
theorem OutOK_step (c r : Dev nD) (q : Fin 2) (n : ℕ) (hn : outOrd c r q = n) (f : S512x512.Idx → Elt F .f32) (hf : OutOK A B c n f) :
    OutOK A B c (n + 1) ((oM.access (rP r q)).write (Elt F) f (outBlk A B c r q) Finset.univ) := by
  intro i hi
  by_cases hm : i ∈ (rP r q).set
  · exact store_out_on A B c r q f i hm
  · rw [store_out_off c r q f _ i hm]
    refine hf i ?_
    have : outOrd c (rowDev i) (colHalf i) ≠ n := fun h => by
      obtain ⟨h1, h2⟩ := outOrd_inj c (h.trans hn.symm)
      exact hm ((mem_rP r q i).mpr ⟨congrArg Fin.val h1, congrArg Fin.val h2⟩)
    omega
/-- All of it written. -/
theorem OutOK_all (c : Dev nD) (f : S512x512.Idx → Elt F .f32) (hf : OutOK A B c 16 f) : f = outVal A B c :=
  funext fun i => hf i (outOrd_lt _ _ _)

end Cert.KProof
-- ==== Proof.State.lean ====
/-
# What a device holds between two steps

The state of a device is counted by how far it has come in each activity: signals sent, shares formed, the barrier
passed, copies made, copies waited for, blocks of the result written. `St` is what it holds then.
-/
module

public import proofs.«01_k».proof.Proof.Views

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A half and a peer. -/
abbrev P : Type := Fin 2 × Fin 7

variable (A : Dev nD → S512x256.Idx → Elt F .f32) (B : Dev nD → S256x512.Idx → Elt F .f32)
variable (K : Dev nD × CI → ℕ) (c : Dev nD)

/-- The invariants of all cells, the mark that each has begun its one round, and the levels: shared by all devices. -/
def Recs : sProp 𝕄 :=
  iprop(levAts L lv ∗ bigSep Finset.univ (fun ck : Dev nD × CI => iprop(cellInv ER (Rd A B) (K ck) (kcell ck) ∗ reached ER (kcell ck) 0)))

instance Recs_persistent : BI.Persistent (Recs A B K) := by unfold Recs; infer_instance

/-- The records give the levels -/
theorem Recs_lev : Recs A B K ⊢ (levAts L lv : sProp 𝕄) := by
  unfold Recs; iintro ⟨H, -⟩; iexact H
/-- and each cell's invariant. -/
theorem Recs_cell (ck : Dev nD × CI) : Recs A B K ⊢ iprop(cellInv ER (Rd A B) (K ck) (kcell ck) ∗ reached ER (kcell ck) 0) := by
  unfold Recs
  iintro ⟨-, H⟩
  iapply (show (bigSep Finset.univ (fun ck : Dev nD × CI => iprop(cellInv ER (Rd A B) (K ck) (kcell ck) ∗ reached ER (kcell ck) 0)) : sProp 𝕄) ⊢ _
    from bigSep_elim (Finset.mem_univ ck))
  iexact H

/-- What it still owes, whatever it has waited for. -/
def Owe (n1 n2 n3 : ℕ) : sProp 𝕄 := iprop(∃ W, owes (c : Thread nD τ) (OW c n1 n2 n3) W)
/-- The signals: before each, the right to it and what it hands over. -/
def FSig (sg : ℕ) : sProp 𝕄 :=
  trk (fun k : Fin 7 => k.val) (fun k => iprop(dutyTok ER (barCell (rot c k.succ)) 0 k.rev ∗ barPay (rot c k.succ) k.rev)) (fun _ => iprop(emp)) (fun _ => iprop(emp)) sg 0
/-- The barrier cell. -/
def FBar (ba : Bool) : sProp 𝕄 :=
  if ba then atPos ER (barCell c) 1 ∅ 0 else iprop(atPos ER (barCell c) 0 ∅ 0 ∗ cred (tallyAt (barCell c) () 7))
/-- The blocks of shares not yet formed, -/
def FPartA (dt : ℕ) : sProp 𝕄 :=
  trk (fun k : Fin 7 => k.val) (fun k => partAny c (rot c k.succ)) (fun _ => iprop(emp)) (fun _ => iprop(emp)) dt 0
/-- and those formed and not yet sent. -/
def FPartD (dt rs : ℕ) : sProp 𝕄 :=
  avail rk (fun p : P => p.2.val) (fun p => partP c (rP (rot c p.2.succ) p.1).set (partVal A B c)) dt rs
/-- The first exchange's copies: the rights before, the send credit after. -/
def FSend1 (rs ws : ℕ) : sProp 𝕄 :=
  trk rk (fun p : P => iprop(dutyTok ER (xCell c 0 p.1 p.2.succ) 0 0 ∗ dutyTok ER (xCell (rot c p.2.succ) 1 p.1 p.2.succ) 0 0))
    (fun p => cred (tallyAt (xCell c 0 p.1 p.2.succ) () N)) (fun _ => iprop(emp)) rs ws
/-- The places the first exchange's copies go to, handed over by the others' signals, -/
def FDst1 (ba : Bool) (rs : ℕ) : sProp 𝕄 :=
  avail rk (fun _ : P => 0) (fun p => stagAny (rot c p.2.succ) p.2.succ p.1) (if ba then 1 else 0) rs
/-- and the second's. -/
def FDst2 (ba : Bool) (ag : ℕ) : sProp 𝕄 :=
  avail rk (fun _ : P => 0) (fun p => gatAny (rot c p.2.succ) c p.1) (if ba then 1 else 0) ag
/-- The first exchange's arrivals. -/
def FRecv1 (rr : ℕ) : sProp 𝕄 :=
  trk rk (fun p : P => iprop(atPos ER (xCell c 1 p.1 p.2.succ) 0 ∅ 0 ∗ cred (tallyAt (xCell c 1 p.1 p.2.succ) () N)))
    (fun p => iprop(semVal (xCell c 1 p.1 p.2.succ) 0 ∗ stagP c (rS p.2.succ p.1).set (stagVal A B c))) (fun _ => iprop(emp)) rr 0
/-- Its own block of the gathered buffer: what stays when the copies' shares are lent, -/
def FGatR (gs : ℕ) : sProp 𝕄 :=
  trk (fun q : Fin 2 => q.val) (fun q => gatAny c c q) (fun q => gatP c (rP c q).set (Transfers.shareDrop fullShare 7) (gatVal A B)) (fun _ => iprop(emp)) gs 0
/-- and the shares not yet lent. -/
def FGatT (gs ag : ℕ) : sProp 𝕄 :=
  avail rk (fun p : P => p.1.val) (fun p => gatP c (rP c p.1).set (tok p.2.succ) (gatVal A B)) gs ag
/-- The second exchange's copies. -/
def FSend2 (ag wa : ℕ) : sProp 𝕄 :=
  trk rk (fun p : P => iprop(dutyTok ER (xCell c 2 p.1 p.2.succ) 0 0 ∗ dutyTok ER (xCell (rot c p.2.succ) 3 p.1 p.2.succ) 0 0))
    (fun p => cred (tallyAt (xCell c 2 p.1 p.2.succ) () N)) (fun _ => iprop(emp)) ag wa
/-- The first exchange's copies completed: their sources are back. -/
def FWait1 (ws : ℕ) : sProp 𝕄 :=
  trk rk (fun p : P => atPos ER (xCell c 0 p.1 p.2.succ) 0 ∅ 0)
    (fun p => iprop(semVal (xCell c 0 p.1 p.2.succ) 0 ∗ partP c (rP (rot c p.2.succ) p.1).set (partVal A B c))) (fun _ => iprop(emp)) ws 0
/-- The second exchange's arrivals. -/
def FRecv2 (ar : ℕ) : sProp 𝕄 :=
  trk rk (fun p : P => iprop(atPos ER (xCell c 3 p.1 p.2.succ) 0 ∅ 0 ∗ cred (tallyAt (xCell c 3 p.1 p.2.succ) () N)))
    (fun p => iprop(semVal (xCell c 3 p.1 p.2.succ) 0 ∗ gatP c (rP (bak c p.2.succ) p.1).set fullShare (gatVal A B))) (fun _ => iprop(emp)) ar 0
/-- The second exchange's copies completed: the shares lent are back. -/
def FWait2 (wa : ℕ) : sProp 𝕄 :=
  trk rk (fun p : P => atPos ER (xCell c 2 p.1 p.2.succ) 0 ∅ 0)
    (fun p => iprop(semVal (xCell c 2 p.1 p.2.succ) 0 ∗ gatP c (rP c p.1).set (tok p.2.succ) (gatVal A B))) (fun _ => iprop(emp)) wa 0
/-- The result's buffer, right at the first `n` half blocks in the order they are written. -/
def FOut (n : ℕ) : sProp 𝕄 :=
  iprop(∃ f : S512x512.Idx → Elt F .f32, ⌜OutOK A B c n f⌝ ∗ ((c : Thread nD τ).loc cc0_stg2_0) ↦{fullShare} f)
/-- The two factors' buffers. -/
def FA : sProp 𝕄 := ((c : Thread nD τ).loc cc0_stg0_0) ↦{fullShare} (A c)
/-- Device `c`'s staged right factor. -/
def FB : sProp 𝕄 := ((c : Thread nD τ).loc cc0_stg1_0) ↦{fullShare} (B c)

/-- The counters: signals sent; shares formed; barrier passed; first copies made; first arrivals taken; own sums stored;
    second copies made; half blocks written; first copies completed; second arrivals taken; second copies completed. -/
structure Cnt where
  sg : ℕ
  dt : ℕ
  ba : Bool
  rs : ℕ
  rr : ℕ
  gs : ℕ
  ag : ℕ
  ow : ℕ
  ws : ℕ
  ar : ℕ
  wa : ℕ

/-- What device `c` holds at counters `n`, beside a rest `R` no step touches. -/
def St (R : sProp 𝕄) (n : Cnt) : sProp 𝕄 :=
  iprop(Recs A B K ∗ Owe c n.sg n.rs n.ag ∗ FSig c n.sg ∗ FBar c n.ba ∗ FPartA c n.dt ∗ FPartD A B c n.dt n.rs ∗ FSend1 c n.rs n.ws
    ∗ FDst1 c n.ba n.rs ∗ FDst2 c n.ba n.ag ∗ FRecv1 A B c n.rr ∗ FGatR A B c n.gs ∗ FGatT A B c n.gs n.ag ∗ FSend2 c n.ag n.wa
    ∗ FWait1 A B c n.ws ∗ FRecv2 A B c n.ar ∗ FWait2 A B c n.wa ∗ FOut A B c n.ow ∗ FA A c ∗ FB B c ∗ R)

/-- The body needs no variants: it has no loop. -/
abbrev 𝒱₀ : Variants := Variants.none

/-- The weakest precondition of a piece of device `c`'s program. -/
abbrev wpk {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.KProof
-- ==== Proof.Open.lean ====
/-
# Taking one entry out of a device's state

Each lemma names the one entry of a family that a step uses and says what the family is afterwards.
-/
module

public import proofs.«01_k».proof.Proof.State

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Generic
variable {M : Type} [URA M] {I : Type} [Fintype I] [DecidableEq I]

/-- An entry whose second state holds nothing is taken for good. -/
theorem trk_take {r : I → ℕ} (hr : Function.Injective r) {X Y : I → sProp M} (p : I) (n : ℕ) (hp : r p = n) :
    trk r X (fun _ => iprop(emp)) Y n 0 ⊢ iprop(X p ∗ trk r X (fun _ => iprop(emp)) Y (n + 1) 0) := by
  refine (trk_first hr p n 0 hp (Nat.zero_le _)).trans ?_
  iintro ⟨H1, H2⟩
  isplitl [H1]; · iexact H1
  iapply H2; iempintro
/-- An entry whose third state holds nothing is taken for good. -/
theorem trk_spend {r : I → ℕ} (hr : Function.Injective r) {X Y : I → sProp M} (p : I) (n m : ℕ) (hp : r p = m) (hm : m < n) :
    trk r X Y (fun _ => iprop(emp)) n m ⊢ iprop(Y p ∗ trk r X Y (fun _ => iprop(emp)) n (m + 1)) := by
  refine (trk_second hr p n m hp hm).trans ?_
  iintro ⟨H1, H2⟩
  isplitl [H1]; · iexact H1
  iapply H2; iempintro

/-- Of a family that is empty but for one member, that member. -/
theorem bigSep_only (k : I) (X : sProp M) : bigSep Finset.univ (fun i => if i = k then X else iprop(emp)) = X := by
  rw [bigSep_univ_at _ k, if_pos rfl, bigSep_congr (s := Finset.univ.erase k) (Ψ := fun _ => iprop(emp)) fun i hi => if_neg (Finset.ne_of_mem_erase hi),
    show bigSep (Finset.univ.erase k) (fun _ => (iprop(emp) : sProp M)) = iprop(emp) from bigSep_emp_const _]
  exact equiv_iff.mp Idealize.SL.BI.sep_emp
end Generic

variable (A : Dev nD → S512x256.Idx → Elt F .f32) (B : Dev nD → S256x512.Idx → Elt F .f32) (c : Dev nD)

/-- Peers are told apart by their numbers. -/
theorem val_inj : Function.Injective (fun k : Fin 7 => k.val) := fun _ _ => Fin.ext

/-- Each of the following takes one entry out of what a device holds and says how it is put back: the next signal, with its token and what it hands over, -/
theorem FSig_open (k : Fin 7) (n : ℕ) (hk : k.val = n) :
    FSig (F := F) c n ⊢ iprop((dutyTok ER (barCell (rot c k.succ)) 0 k.rev ∗ barPay (rot c k.succ) k.rev) ∗ FSig c (n + 1)) :=
  trk_take val_inj k n hk
/-- the next block of shares to be written, -/
theorem FPartA_open (k : Fin 7) (n : ℕ) (hk : k.val = n) : FPartA (F := F) c n ⊢ iprop(partAny c (rot c k.succ) ∗ FPartA c (n + 1)) :=
  trk_take val_inj k n hk
/-- the same for a look at it, -/
theorem FPartA_look (k : Fin 7) (n : ℕ) (hk : k.val = n) :
    FPartA (F := F) c n ⊢ iprop(partAny c (rot c k.succ) ∗ (partAny c (rot c k.succ) -∗ FPartA c n)) :=
  trk_getA k n 0 hk.ge (Nat.zero_le _)
/-- the next half of a block of shares to be sent, -/
theorem FPartD_open (p : P) (t n : ℕ) (hp : rk p = n) (ht : p.2.val < t) :
    FPartD A B c t n ⊢ iprop(partP c (rP (rot c p.2.succ) p.1).set (partVal A B c) ∗ FPartD A B c t (n + 1)) :=
  avail_use rk_inj p t n hp ht
/-- a block of shares just written, put among those to be sent, -/
theorem FPartD_close (k : Fin 7) (t n : ℕ) (hk : k.val = t) (hn : n ≤ k.val) :
    iprop(FPartD A B c t n ∗ partP c (rP (rot c k.succ) 0).set (partVal A B c) ∗ partP c (rP (rot c k.succ) 1).set (partVal A B c))
      ⊢ FPartD A B c (t + 1) n := by
  have e : bigSep Finset.univ (fun p : P => if p.2.val = t then partP c (rP (rot c p.2.succ) p.1).set (partVal A B c) else iprop(emp))
      = iprop(partP c (rP (rot c k.succ) 0).set (partVal A B c) ∗ partP c (rP (rot c k.succ) 1).set (partVal A B c)) := by
    rw [bigSep_univ_prod]
    refine Eq.trans (bigSep_congr fun q _ => ?_) (bigSep_fin_two (fun q : Fin 2 => partP c (rP (rot c k.succ) q).set (partVal A B c)))
    rw [← bigSep_only k (partP c (rP (rot c k.succ) q).set (partVal A B c))]
    refine bigSep_congr fun i _ => ?_
    by_cases h : i = k
    · subst h; rw [if_pos hk, if_pos rfl]
    · rw [if_neg (fun h' => h (Fin.ext (h'.trans hk.symm))), if_neg h]
  rw [← e]
  exact avail_ready t n fun p hp => by unfold rk; omega
/-- the next copy of the first exchange, with its tokens; its send's credit is put back, -/
theorem FSend1_open (p : P) (n m : ℕ) (hp : rk p = n) (hm : m ≤ n) :
    FSend1 (F := F) c n m ⊢ iprop((dutyTok ER (xCell c 0 p.1 p.2.succ) 0 0 ∗ dutyTok ER (xCell (rot c p.2.succ) 1 p.1 p.2.succ) 0 0)
      ∗ (cred (tallyAt (xCell c 0 p.1 p.2.succ) () N) -∗ FSend1 c (n + 1) m)) :=
  trk_first rk_inj p n m hp hm
/-- that credit, at the wait, -/
theorem FSend1_spend (p : P) (n m : ℕ) (hp : rk p = m) (hm : m < n) :
    FSend1 (F := F) c n m ⊢ iprop(cred (tallyAt (xCell c 0 p.1 p.2.succ) () N) ∗ FSend1 c n (m + 1)) :=
  trk_spend rk_inj p n m hp hm
/-- the next copy's destination, on the peer, -/
theorem FDst1_open (p : P) (n : ℕ) (hp : rk p = n) :
    FDst1 (F := F) c true n ⊢ iprop(stagAny (rot c p.2.succ) p.2.succ p.1 ∗ FDst1 c true (n + 1)) :=
  avail_use rk_inj p 1 n hp Nat.one_pos
/-- the same in the second exchange, -/
theorem FDst2_open (p : P) (n : ℕ) (hp : rk p = n) :
    FDst2 (F := F) c true n ⊢ iprop(gatAny (rot c p.2.succ) c p.1 ∗ FDst2 c true (n + 1)) :=
  avail_use rk_inj p 1 n hp Nat.one_pos
/-- What the barrier brings: every place the two exchanges' copies go to. -/
theorem FDst_close : iprop(FDst1 (F := F) c false 0 ∗ FDst2 c false 0 ∗ bigSep Finset.univ (fun d : Fin 7 => barPay c d))
    ⊢ iprop(FDst1 c true 0 ∗ FDst2 c true 0) := by
  have e1 : FDst1 (F := F) c true 0 = bigSep Finset.univ (fun p : P => stagAny (rot c p.2.succ) p.2.succ p.1) := avail_all 1 fun _ => Nat.one_pos
  have e2 : FDst2 (F := F) c true 0 = bigSep Finset.univ (fun p : P => gatAny (rot c p.2.succ) c p.1) := avail_all 1 fun _ => Nat.one_pos
  rw [e1, e2]
  unfold barPay
  rw [bigSep_sep', bigSep_sep', bigSep_sep', bigSep_univ_prod, bigSep_univ_prod, bigSep_fin_two, bigSep_fin_two]
  show iprop(_ ∗ _ ∗ (bigSep Finset.univ (fun d : Fin 7 => stagAny (rot c d.succ) d.succ 0) ∗ bigSep Finset.univ (fun d : Fin 7 => stagAny (rot c d.succ) d.succ 1))
      ∗ (bigSep Finset.univ (fun d : Fin 7 => gatAny (rot c d.succ) c 0) ∗ bigSep Finset.univ (fun d : Fin 7 => gatAny (rot c d.succ) c 1)))
    ⊢ iprop((bigSep Finset.univ (fun d : Fin 7 => stagAny (rot c d.succ) d.succ 0) ∗ bigSep Finset.univ (fun d : Fin 7 => stagAny (rot c d.succ) d.succ 1))
      ∗ (bigSep Finset.univ (fun d : Fin 7 => gatAny (rot c d.succ) c 0) ∗ bigSep Finset.univ (fun d : Fin 7 => gatAny (rot c d.succ) c 1)))
  iintro ⟨-, -, H1, H2⟩
  iframe
/-- the next copy of the first exchange to arrive; its slot is put back full, -/
theorem FRecv1_open (p : P) (n : ℕ) (hp : rk p = n) :
    FRecv1 A B c n ⊢ iprop((atPos ER (xCell c 1 p.1 p.2.succ) 0 ∅ 0 ∗ cred (tallyAt (xCell c 1 p.1 p.2.succ) () N))
      ∗ ((semVal (xCell c 1 p.1 p.2.succ) 0 ∗ stagP c (rS p.2.succ p.1).set (stagVal A B c)) -∗ FRecv1 A B c (n + 1))) :=
  trk_first rk_inj p n 0 hp (Nat.zero_le _)
/-- a look at a slot that has arrived, -/
theorem FRecv1_look (p : P) (n : ℕ) (hp : rk p < n) :
    FRecv1 A B c n ⊢ iprop((semVal (xCell c 1 p.1 p.2.succ) 0 ∗ stagP c (rS p.2.succ p.1).set (stagVal A B c))
      ∗ ((semVal (xCell c 1 p.1 p.2.succ) 0 ∗ stagP c (rS p.2.succ p.1).set (stagVal A B c)) -∗ FRecv1 A B c n)) :=
  trk_getB p n 0 hp (Nat.zero_le _)
/-- the own half block of sums to be written, -/
theorem FGatR_open (q : Fin 2) (n : ℕ) (hq : q.val = n) :
    FGatR A B c n ⊢ iprop(gatAny c c q ∗ (gatP c (rP c q).set (Transfers.shareDrop fullShare 7) (gatVal A B) -∗ FGatR A B c (n + 1))) :=
  trk_first (fun _ _ => Fin.ext) q n 0 hq (Nat.zero_le _)
/-- a look at it, -/
theorem FGatR_look (q : Fin 2) (n : ℕ) (hq : q.val = n) : FGatR A B c n ⊢ iprop(gatAny c c q ∗ (gatAny c c q -∗ FGatR A B c n)) :=
  trk_getA q n 0 hq.ge (Nat.zero_le _)
/-- a share of it for the next copy of the second exchange, -/
theorem FGatT_open (p : P) (t n : ℕ) (hp : rk p = n) (ht : p.1.val < t) :
    FGatT A B c t n ⊢ iprop(gatP c (rP c p.1).set (tok p.2.succ) (gatVal A B) ∗ FGatT A B c t (n + 1)) :=
  avail_use rk_inj p t n hp ht
/-- the shares for all peers, after it is written, -/
theorem FGatT_close (q : Fin 2) (t n : ℕ) (hq : q.val = t) (hn : n ≤ 7 * q.val) :
    iprop(FGatT A B c t n ∗ bigSep Finset.univ (fun k : Fin 7 => gatP c (rP c q).set (tok k.succ) (gatVal A B))) ⊢ FGatT A B c (t + 1) n := by
  have e : bigSep Finset.univ (fun p : P => if p.1.val = t then gatP c (rP c p.1).set (tok p.2.succ) (gatVal A B) else iprop(emp))
      = bigSep Finset.univ (fun k : Fin 7 => gatP c (rP c q).set (tok k.succ) (gatVal A B)) := by
    rw [bigSep_univ_prod]
    refine (bigSep_congr fun x _ => ?_).trans (bigSep_only q _)
    by_cases h : x = q
    · subst h; rw [if_pos rfl]; exact bigSep_congr fun k _ => if_pos hq
    · rw [if_neg h]
      exact (bigSep_congr fun k _ => if_neg fun h' => h (Fin.ext (h'.trans hq.symm))).trans (bigSep_emp_const _)
  rw [← e]
  exact avail_ready t n fun p hp => by unfold rk; omega
/-- the next copy of the second exchange, with its tokens; its send's credit is put back, -/
theorem FSend2_open (p : P) (n m : ℕ) (hp : rk p = n) (hm : m ≤ n) :
    FSend2 (F := F) c n m ⊢ iprop((dutyTok ER (xCell c 2 p.1 p.2.succ) 0 0 ∗ dutyTok ER (xCell (rot c p.2.succ) 3 p.1 p.2.succ) 0 0)
      ∗ (cred (tallyAt (xCell c 2 p.1 p.2.succ) () N) -∗ FSend2 c (n + 1) m)) :=
  trk_first rk_inj p n m hp hm
/-- that credit, at the wait, -/
theorem FSend2_spend (p : P) (n m : ℕ) (hp : rk p = m) (hm : m < n) :
    FSend2 (F := F) c n m ⊢ iprop(cred (tallyAt (xCell c 2 p.1 p.2.succ) () N) ∗ FSend2 c n (m + 1)) :=
  trk_spend rk_inj p n m hp hm
/-- the next wait for a send of the first exchange; its source is put back, -/
theorem FWait1_open (p : P) (n : ℕ) (hp : rk p = n) :
    FWait1 A B c n ⊢ iprop(atPos ER (xCell c 0 p.1 p.2.succ) 0 ∅ 0
      ∗ ((semVal (xCell c 0 p.1 p.2.succ) 0 ∗ partP c (rP (rot c p.2.succ) p.1).set (partVal A B c)) -∗ FWait1 A B c (n + 1))) :=
  trk_first rk_inj p n 0 hp (Nat.zero_le _)
/-- the next copy of the second exchange to arrive; its half block is put back full, -/
theorem FRecv2_open (p : P) (n : ℕ) (hp : rk p = n) :
    FRecv2 A B c n ⊢ iprop((atPos ER (xCell c 3 p.1 p.2.succ) 0 ∅ 0 ∗ cred (tallyAt (xCell c 3 p.1 p.2.succ) () N))
      ∗ ((semVal (xCell c 3 p.1 p.2.succ) 0 ∗ gatP c (rP (bak c p.2.succ) p.1).set fullShare (gatVal A B)) -∗ FRecv2 A B c (n + 1))) :=
  trk_first rk_inj p n 0 hp (Nat.zero_le _)
/-- a look at one that has arrived, -/
theorem FRecv2_look (p : P) (n : ℕ) (hp : rk p < n) :
    FRecv2 A B c n ⊢ iprop((semVal (xCell c 3 p.1 p.2.succ) 0 ∗ gatP c (rP (bak c p.2.succ) p.1).set fullShare (gatVal A B))
      ∗ ((semVal (xCell c 3 p.1 p.2.succ) 0 ∗ gatP c (rP (bak c p.2.succ) p.1).set fullShare (gatVal A B)) -∗ FRecv2 A B c n)) :=
  trk_getB p n 0 hp (Nat.zero_le _)
/-- and the next wait for a send of the second exchange; the share of its source is put back. -/
theorem FWait2_open (p : P) (n : ℕ) (hp : rk p = n) :
    FWait2 A B c n ⊢ iprop(atPos ER (xCell c 2 p.1 p.2.succ) 0 ∅ 0
      ∗ ((semVal (xCell c 2 p.1 p.2.succ) 0 ∗ gatP c (rP c p.1).set (tok p.2.succ) (gatVal A B)) -∗ FWait2 A B c (n + 1))) :=
  trk_first rk_inj p n 0 hp (Nat.zero_le _)

end Cert.KProof
-- ==== Proof.Steps.lean ====
/-
# The steps of the exchange

One lemma per kind of step the program takes: from the state at some counters, through the step, to the state at the
next. They hold at every device, distance and half.
-/
module

public import proofs.«01_k».proof.Proof.Open

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
variable {α : Type} {Q : α → sProp (MT nD τ sig Unit (Elt F) ℕ UU ℕ)}

/-- What a device owes, whatever it waits for. -/
theorem Owe_intro (c : Dev nD) (n1 n2 n3 : ℕ) (W : Waits sig Unit) : (owes (c : Thread nD τ) (OW c n1 n2 n3) W : sProp 𝕄) ⊢ Owe c n1 n2 n3 := by
  unfold Owe; iintro H; iexists W; iexact H

/-- The elements of a whole buffer that a rectangle reads are the rectangle's. -/
theorem setOn_whole (b : Ref sig .tc) (S : Finset b.ty.shape.Idx) : (Memref.whole b).view.setOn S = S := by
  ext i
  constructor
  · intro h; obtain ⟨x, hx, rfl⟩ := Finset.mem_map.mp h; exact hx
  · intro h; exact Finset.mem_map.mpr ⟨i, h, rfl⟩

/-- Signalling the device `k + 1` places on. -/
theorem st_signal (k : Fin 7) {dv : Dev nD → Dev nD} {m : ℤ} {kk : PUnit → Prog (TpuEff nD τ sig (Elt F) Λ₀ .tc) α}
    (h : St A B K c R { n with sg := n.sg + 1 } ⊢ wpk c (kk ⟨⟩) Q)
    (hd : ∀ x, dv x = rot x k.succ := by decide +kernel) (hm : m = 1 := by decide +kernel) (hk : k.val = n.sg := by decide +kernel) :
    St A B K c R n ⊢ wpk c (.op (.semSignal (dv c : Thread nD τ) barS m) kk) Q := by
  rw [hd c]; subst hm
  unfold St
  iintro ⟨#HR, HO, HSg, HBa, HPA, HPD, HS1, HD1, HD2, HV1, HGR, HGT, HS2, HW1, HV2, HW2, HOut, HA, HB, HRest⟩
  unfold Owe; icases HO with ⟨%W, HO⟩
  ihave H := (FSig_open c k n.sg hk) $$ HSg
  icases H with ⟨⟨Ht, Hp⟩, HSg⟩
  ihave Hrec := (Recs_cell A B K (rot c k.succ, none)) $$ HR
  icases Hrec with ⟨#HI, #Hr⟩
  iapply (Rounds.wp_signal 𝒱₀ ER (Rd A B) (c : Thread nD τ) none (dst := (rot c k.succ : Thread nD τ)) (κ := K (rot c k.succ, none))
      (r := 0) (d := k.rev) (k' := 1) (by rw [duties_bar]; exact Finset.mem_univ _) rfl () (OW c (n.sg + 1) n.rs n.ag) (OW_signal c k n.sg hk n.rs n.ag))
    $$ [HO Ht Hp]
  · isplitr; · iexact HI
    isplitl [HO]; · iexact HO
    isplitl [Ht]; · iexact Ht
    isplitl [Hp]; · rw [payload_bar]; iexact Hp
    iexact Hr
  iintro HO
  iapply h
  unfold St
  ihave HO := (Owe_intro c (n.sg + 1) n.rs n.ag W) $$ HO
  iframe
  iexact HR

/-- The wait for the seven signals. -/
theorem st_bar_wait {m : ℤ} {kk : PUnit → Prog (TpuEff nD τ sig (Elt F) Λ₀ .tc) α}
    (h : St A B K c R { n with ba := true } ⊢ wpk c (kk ⟨⟩) Q)
    (hm : m = 7 := by decide +kernel) (h1 : n.sg = 7 := by decide +kernel) (h2 : n.ba = false := by decide +kernel) (h3 : n.rs = 0 := by decide +kernel) (h4 : n.ag = 0 := by decide +kernel) :
    St A B K c R n ⊢ wpk c (.op (.semWait barS m) kk) Q := by
  obtain ⟨sg, dt, ba, rs, rr, gs, ag, ow, ws, ar, wa⟩ := n
  subst hm; subst h1; subst h2; subst h3; subst h4
  unfold St
  iintro ⟨#HR, HO, HSg, HBa, HPA, HPD, HS1, HD1, HD2, HV1, HGR, HGT, HS2, HW1, HV2, HW2, HOut, HA, HB, HRest⟩
  unfold Owe; icases HO with ⟨%W, HO⟩
  ihave Hrec := (Recs_cell A B K (c, none)) $$ HR
  icases Hrec with ⟨#HI, -⟩
  ihave HBa := (show FBar (F := F) c false ⊢ iprop(atPos ER (barCell c) 0 ∅ 0 ∗ cred (tallyAt (barCell c) () 7)) from Entails.refl _) $$ HBa
  icases HBa with ⟨Hat, Hc⟩
  iapply (Rounds.wp_wait_rest_token 𝒱₀ ER (Rd A B) (c : Thread nD τ) none (κ := K (c, none)) (k' := 7)
      (wpE_semWait_eq 𝒱₀ (c : Thread nD τ) none Set.univ) (Set.mem_univ _) () (O := OW c 7 0 0) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barS) 7 0 0 (.inr le_rfl) (.inl (by decide)) (.inl (by decide)))
      iapply (Recs_lev A B K); iexact HR
    iexact Hat
  iintro ⟨HO, Hat, -, Hpay⟩
  ihave Hp := (Entails.of_eq (rest_bar A B c)) $$ Hpay
  ihave HD := (FDst_close c) $$ [HD1 HD2 Hp]
  · iframe
  icases HD with ⟨HD1, HD2⟩
  iapply h
  unfold St
  ihave HO := (Owe_intro c 7 0 0 _) $$ HO
  ihave HBa := (show atPos ER (barCell c) 1 ∅ 0 ⊢ FBar (F := F) c true from Entails.refl _) $$ Hat
  iframe
  iexact HR

/-- The wait on one transfer cell: its counter back at zero and what its round delivers. -/
theorem wait_x (a : Fin 4) (q : Fin 2) (k : Fin 7) {sem : DmaSem sig} {sp sp' : Space} {s s' : Shape} {e e' : EltTy}
    {src : Memref sig .tc sp' s' e'} {dst : Memref sig .tc sp s e} {hsrc : src.view.WordExact} {hdst : dst.view.WordExact}
    {kk : PUnit → Prog (TpuEff nD τ sig (Elt F) Λ₀ .tc) α} (hs : sem = dsem a q k.succ) (hN : dst.view.dmaCredit = N) (n1 n2 n3 : ℕ)
    (h1 : a = 1 ∨ a = 3 → 7 ≤ n1 ∧ 14 ≤ n2) (h3 : a = 3 → 14 ≤ n3) :
    iprop(Recs A B K ∗ Owe c n1 n2 n3 ∗ atPos ER (xCell c a q k.succ) 0 ∅ 0 ∗ cred (tallyAt (xCell c a q k.succ) () N))
      ⊢ iprop(((Owe c n1 n2 n3 ∗ semVal (xCell c a q k.succ) 0 ∗ xPay A B c (a, q, k.succ)) -∗ wpk c (kk ⟨⟩) Q)
        -∗ wpk c (.op (.waitDma2 sem src dst hsrc hdst) kk) Q) := by
  subst hs
  iintro ⟨#HR, HO, Hat, Hc⟩ Hk
  unfold Owe; icases HO with ⟨%W, HO⟩
  ihave Hrec := (Recs_cell A B K (c, some (a, q, k.succ))) $$ HR
  icases Hrec with ⟨#HI, -⟩
  iapply (Rounds.wp_wait_rest_token 𝒱₀ ER (Rd A B) (c : Thread nD τ) none (κ := K (c, some (a, q, k.succ)))
      (wpE_waitDma2_eq 𝒱₀ (c : Thread nD τ) none Set.univ) (Set.mem_univ _) () (O := OW c n1 n2 n3) (W := W) (R := 0) (m := 0) (T := ∅)
      (by rw [Nat.zero_add, expect_x, hN])) $$ [Hc HO Hat]
  · isplitr; · iexact HI
    isplitl [Hc]; · rw [hN]; iexact Hc
    isplitl [HO]; · iexact HO
    isplitr
    · iapply (mayWait c (.dma (dsem a q k.succ)) n1 n2 n3
        (by rw [lvOf_x]; split; · exact .inr (h1 (.inl ‹_›)).1
            split; · exact .inr (h1 (.inr ‹_›)).1
            exact .inl (by decide))
        (by rw [lvOf_x]; split; · exact .inr (h1 (.inl ‹_›)).2
            split; · exact .inr (h1 (.inr ‹_›)).2
            exact .inl (by decide))
        (by rw [lvOf_x]; split; · exact .inl (by decide)
            split; · exact .inr (h3 ‹_›)
            exact .inl (by decide)))
      iapply (Recs_lev A B K); iexact HR
    iexact Hat
  iintro ⟨HO, Hat, -, Hpay⟩
  ihave Hp := (Entails.of_eq (rest_x A B c a q k)) $$ Hpay
  imod (Rounds.cell_close ER (Rd A B) (Set.mem_univ (K (c, some (a, q, k.succ)))) (fun h => h) (R := 0 + 1) (duties_later A B (xCell c a q k.succ))) $$ [Hat] with Hz
  · isplitr; · iexact HI
    iexact Hat
  iapply Hk
  isplitl [HO]; · iexists _; iexact HO
  isplitl [Hz]; · iexact Hz
  iexact Hp

/-- The wait for the arrival of a share. -/
theorem st_wait_recv1 (p : P) {sem : DmaSem sig} {sp sp' : Space} {s s' : Shape} {e e' : EltTy}
    {src : Memref sig .tc sp' s' e'} {dst : Memref sig .tc sp s e} {hsrc : src.view.WordExact} {hdst : dst.view.WordExact}
    {kk : PUnit → Prog (TpuEff nD τ sig (Elt F) Λ₀ .tc) α}
    (h : St A B K c R { n with rr := n.rr + 1 } ⊢ wpk c (kk ⟨⟩) Q)
    (hs : sem = dsem 1 p.1 p.2.succ := by rfl) (hN : dst.view.dmaCredit = N := by rfl)
    (hp : rk p = n.rr := by decide +kernel) (h1 : 7 ≤ n.sg := by decide +kernel) (h2 : 14 ≤ n.rs := by decide +kernel) :
    St A B K c R n ⊢ wpk c (.op (.waitDma2 sem src dst hsrc hdst) kk) Q := by
  unfold St
  iintro ⟨#HR, HO, HSg, HBa, HPA, HPD, HS1, HD1, HD2, HV1, HGR, HGT, HS2, HW1, HV2, HW2, HOut, HA, HB, HRest⟩
  ihave H := (FRecv1_open A B c p n.rr hp) $$ HV1
  icases H with ⟨⟨Hat, Hc⟩, Hcl⟩
  iapply (wait_x 1 p.1 p.2 hs hN n.sg n.rs n.ag (fun _ => ⟨h1, h2⟩) (fun h => absurd h (by decide))) $$ [HO Hat Hc]
  · iframe; iexact HR
  iintro ⟨HO, Hz, Hp⟩
  ihave Hp := (show xPay A B c (1, p.1, p.2.succ) ⊢ stagP c (rS p.2.succ p.1).set (stagVal A B c) from Entails.refl _) $$ Hp
  ihave HV1 := Hcl $$ [Hz Hp]
  · isplitl [Hz]; · iexact Hz
    iexact Hp
  iapply h
  unfold St
  iframe
  iexact HR

/-- The wait for the completion of a share's copy. -/
theorem st_wait_send1 (p : P) {sem : DmaSem sig} {sp sp' : Space} {s s' : Shape} {e e' : EltTy}
    {src : Memref sig .tc sp' s' e'} {dst : Memref sig .tc sp s e} {hsrc : src.view.WordExact} {hdst : dst.view.WordExact}
    {kk : PUnit → Prog (TpuEff nD τ sig (Elt F) Λ₀ .tc) α}
    (h : St A B K c R { n with ws := n.ws + 1 } ⊢ wpk c (kk ⟨⟩) Q)
    (hs : sem = dsem 0 p.1 p.2.succ := by rfl) (hN : dst.view.dmaCredit = N := by rfl)
    (hp : rk p = n.ws := by decide +kernel) (h1 : n.ws < n.rs := by decide +kernel) :
    St A B K c R n ⊢ wpk c (.op (.waitDma2 sem src dst hsrc hdst) kk) Q := by
  unfold St
  iintro ⟨#HR, HO, HSg, HBa, HPA, HPD, HS1, HD1, HD2, HV1, HGR, HGT, HS2, HW1, HV2, HW2, HOut, HA, HB, HRest⟩
  ihave H := (FWait1_open A B c p n.ws hp) $$ HW1
  icases H with ⟨Hat, Hcl⟩
  ihave H := (FSend1_spend c p n.rs n.ws hp h1) $$ HS1
  icases H with ⟨Hc, HS1⟩
  iapply (wait_x 0 p.1 p.2 hs hN n.sg n.rs n.ag (fun h => absurd h (by decide)) (fun h => absurd h (by decide))) $$ [HO Hat Hc]
  · iframe; iexact HR
  iintro ⟨HO, Hz, Hp⟩
  ihave Hp := (show xPay A B c (0, p.1, p.2.succ) ⊢ partP c (rP (rot c p.2.succ) p.1).set (partVal A B c) from Entails.refl _) $$ Hp
  ihave HW1 := Hcl $$ [Hz Hp]
  · isplitl [Hz]; · iexact Hz
    iexact Hp
  iapply h
  unfold St
  iframe
  iexact HR

/-- The wait for the arrival of a sum. -/
theorem st_wait_recv2 (p : P) {sem : DmaSem sig} {sp sp' : Space} {s s' : Shape} {e e' : EltTy}
    {src : Memref sig .tc sp' s' e'} {dst : Memref sig .tc sp s e} {hsrc : src.view.WordExact} {hdst : dst.view.WordExact}
    {kk : PUnit → Prog (TpuEff nD τ sig (Elt F) Λ₀ .tc) α}
    (h : St A B K c R { n with ar := n.ar + 1 } ⊢ wpk c (kk ⟨⟩) Q)
    (hs : sem = dsem 3 p.1 p.2.succ := by rfl) (hN : dst.view.dmaCredit = N := by rfl)
    (hp : rk p = n.ar := by decide +kernel) (h1 : 7 ≤ n.sg := by decide +kernel) (h2 : 14 ≤ n.rs := by decide +kernel) (h3 : 14 ≤ n.ag := by decide +kernel) :
    St A B K c R n ⊢ wpk c (.op (.waitDma2 sem src dst hsrc hdst) kk) Q := by
  unfold St
  iintro ⟨#HR, HO, HSg, HBa, HPA, HPD, HS1, HD1, HD2, HV1, HGR, HGT, HS2, HW1, HV2, HW2, HOut, HA, HB, HRest⟩
  ihave H := (FRecv2_open A B c p n.ar hp) $$ HV2
  icases H with ⟨⟨Hat, Hc⟩, Hcl⟩
  iapply (wait_x 3 p.1 p.2 hs hN n.sg n.rs n.ag (fun _ => ⟨h1, h2⟩) (fun _ => h3)) $$ [HO Hat Hc]
  · iframe; iexact HR
  iintro ⟨HO, Hz, Hp⟩
  ihave Hp := (show xPay A B c (3, p.1, p.2.succ) ⊢ gatP c (rP (bak c p.2.succ) p.1).set fullShare (gatVal A B) from Entails.refl _) $$ Hp
  ihave HV2 := Hcl $$ [Hz Hp]
  · isplitl [Hz]; · iexact Hz
    iexact Hp
  iapply h
  unfold St
  iframe
  iexact HR

/-- The wait for the completion of a sum's copy. -/
theorem st_wait_send2 (p : P) {sem : DmaSem sig} {sp sp' : Space} {s s' : Shape} {e e' : EltTy}
    {src : Memref sig .tc sp' s' e'} {dst : Memref sig .tc sp s e} {hsrc : src.view.WordExact} {hdst : dst.view.WordExact}
    {kk : PUnit → Prog (TpuEff nD τ sig (Elt F) Λ₀ .tc) α}
    (h : St A B K c R { n with wa := n.wa + 1 } ⊢ wpk c (kk ⟨⟩) Q)
    (hs : sem = dsem 2 p.1 p.2.succ := by rfl) (hN : dst.view.dmaCredit = N := by rfl)
    (hp : rk p = n.wa := by decide +kernel) (h1 : n.wa < n.ag := by decide +kernel) :
    St A B K c R n ⊢ wpk c (.op (.waitDma2 sem src dst hsrc hdst) kk) Q := by
  unfold St
  iintro ⟨#HR, HO, HSg, HBa, HPA, HPD, HS1, HD1, HD2, HV1, HGR, HGT, HS2, HW1, HV2, HW2, HOut, HA, HB, HRest⟩
  ihave H := (FWait2_open A B c p n.wa hp) $$ HW2
  icases H with ⟨Hat, Hcl⟩
  ihave H := (FSend2_spend c p n.ag n.wa hp h1) $$ HS2
  icases H with ⟨Hc, HS2⟩
  iapply (wait_x 2 p.1 p.2 hs hN n.sg n.rs n.ag (fun h => absurd h (by decide)) (fun h => absurd h (by decide))) $$ [HO Hat Hc]
  · iframe; iexact HR
  iintro ⟨HO, Hz, Hp⟩
  ihave Hp := (show xPay A B c (2, p.1, p.2.succ) ⊢ gatP c (rP c p.1).set (tok p.2.succ) (gatVal A B) from Entails.refl _) $$ Hp
  ihave HW2 := Hcl $$ [Hz Hp]
  · isplitl [Hz]; · iexact Hz
    iexact Hp
  iapply h
  unfold St
  iframe
  iexact HR

/-- The load of a block of rows of the left factor. -/
theorem st_load_a (r : Dev nD → Dev nD) {off : Dev nD → Fin 2 → ℕ} {inb : ∀ a, off c a + S64x256.size a ≤ S512x256.size a} {hl}
    {kk : (S64x256.Idx → Elt F .f32) → Prog (TpuEff nD τ sig (Elt F) Λ₀ .tc) α}
    (h : St A B K c R n ⊢ wpk c (kk (aRows A c (r c))) Q) (hoff : ∀ x, off x = ![64 * (r x).val, 0] := by decide +kernel) :
    St A B K c R n ⊢ wpk c (.op (.load aM (Rect.unit (s := S512x256) (off c) S64x256.size inb).toLoadRect hl) kk) Q := by
  revert inb hl
  rw [hoff c]
  intro inb hl
  unfold St
  iintro ⟨#HR, HO, HSg, HBa, HPA, HPD, HS1, HD1, HD2, HV1, HGR, HGT, HS2, HW1, HV2, HW2, HOut, HA, HB, HRest⟩
  unfold FA
  iapply (wp_load 𝒱₀ (c : Thread nD τ) none Set.univ (m := aM) (Finset.subset_univ _)) $$ HA
  iintro HA
  iapply h
  unfold St FA
  iframe
  iexact HR
/-- The load of the right factor. -/
theorem st_load_b {inb : ∀ a, (![0, 0] : Fin 2 → ℕ) a + S256x512.size a ≤ S256x512.size a} {hl}
    {kk : (S256x512.Idx → Elt F .f32) → Prog (TpuEff nD τ sig (Elt F) Λ₀ .tc) α} (h : St A B K c R n ⊢ wpk c (kk (B c)) Q) :
    St A B K c R n ⊢ wpk c (.op (.load bM (Rect.unit (s := S256x512) ![0, 0] S256x512.size inb).toLoadRect hl) kk) Q := by
  unfold St
  iintro ⟨#HR, HO, HSg, HBa, HPA, HPD, HS1, HD1, HD2, HV1, HGR, HGT, HS2, HW1, HV2, HW2, HOut, HA, HB, HRest⟩
  unfold FB
  iapply (wp_load 𝒱₀ (c : Thread nD τ) none Set.univ (m := bM) (Finset.subset_univ _)) $$ HB
  iintro HB
  rw [read_b]
  iapply h
  unfold St FB
  iframe
  iexact HR

end Cert.KProof
-- ==== Proof.Steps2.lean ====
/-
# The steps that store and copy

As the steps that signal, wait and load the factors, for the loads, stores and copies of the shares, the sums and the
result.
-/
module

public import proofs.«01_k».proof.Proof.Steps

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
variable {α : Type} {Q : α → sProp (MT nD τ sig Unit (Elt F) ℕ UU ℕ)}

/-- A store's elements are its rectangle's. -/
theorem setOn_access (b : Ref sig .tc) (r : Rect b.ty.shape) : ((Memref.whole b).access r).setOn Finset.univ = r.set := View.set_slice_whole b r

/-- The load of a block of shares before it is written: whatever it holds. -/
theorem st_load_part (k : Fin 7) {off : Dev nD → Fin 2 → ℕ} {inb : ∀ a, off c a + S64x512.size a ≤ S512x512.size a} {hl}
    {kk : (S64x512.Idx → Elt F .bf16) → Prog (TpuEff nD τ sig (Elt F) Λ₀ .tc) α}
    (h : ∀ v, St A B K c R n ⊢ wpk c (kk v) Q)
    (hoff : ∀ x, off x = ![64 * (rot x k.succ).val, 0] := by decide +kernel) (hk : k.val = n.dt := by decide +kernel) :
    St A B K c R n ⊢ wpk c (.op (.load pM (Rect.unit (s := S512x512) (off c) S64x512.size inb).toLoadRect hl) kk) Q := by
  revert inb hl
  rw [hoff c]
  intro inb hl
  unfold St
  iintro ⟨#HR, HO, HSg, HBa, HPA, HPD, HS1, HD1, HD2, HV1, HGR, HGT, HS2, HW1, HV2, HW2, HOut, HA, HB, HRest⟩
  ihave H := (FPartA_look c k n.dt hk) $$ HPA
  unfold partAny partP
  icases H with ⟨⟨%f, H⟩, Hcl⟩
  iapply (wp_load 𝒱₀ (c : Thread nD τ) none Set.univ (m := pM) (S := (rR (rot c k.succ)).set) (setOn_whole cc0_scratch0 _).subset) $$ H
  iintro H
  ihave HPA := Hcl $$ [H]
  · iexists f; iexact H
  iapply (h _)
  unfold St
  iframe
  iexact HR

/-- What a stored share leaves: its two halves, ready to be sent. -/
theorem part_stored (c r : Dev nD) (f : S512x512.Idx → Elt F .bf16) :
    (((c : Thread nD τ).loc cc0_scratch0) ↦[(rR r).set]{fullShare} ((pM.access (rR r)).write (Elt F) f (partBlk A B c r) Finset.univ) : sProp 𝕄)
      ⊢ iprop(partP c (rP r 0).set (partVal A B c) ∗ partP c (rP r 1).set (partVal A B c)) := by
  have e : ∀ i ∈ (rR r).set, (pM.access (rR r)).write (Elt F) f (partBlk A B c r) Finset.univ i = partVal A B c i := fun i hi => store_part A B c r f i hi
  refine (Entails.of_eq (pointsTo_congr e)).trans ?_
  rw [rR_set]
  exact (pointsTo_union (disjoint_halves r)).1

/-- A share stored. -/
theorem st_store_part (k : Fin 7) {off : Dev nD → Fin 2 → ℕ} {inb : ∀ a, off c a + S64x512.size a ≤ S512x512.size a} {w : S64x512.Idx → Elt F .bf16} {hx hm}
    {kk : PUnit → Prog (TpuEff nD τ sig (Elt F) Λ₀ .tc) α}
    (h : St A B K c R { n with dt := n.dt + 1 } ⊢ wpk c (kk ⟨⟩) Q)
    (hw : w = partBlk A B c (rot c k.succ) := by rfl)
    (hoff : ∀ x, off x = ![64 * (rot x k.succ).val, 0] := by decide +kernel) (hk : k.val = n.dt := by decide +kernel) (hr : n.rs ≤ k.val := by decide +kernel) :
    St A B K c R n ⊢ wpk c (.op (.store pM (Rect.unit (s := S512x512) (off c) S64x512.size inb) w Finset.univ hx hm) kk) Q := by
  revert inb hx hm
  rw [hoff c]
  intro inb hx hm
  subst hw
  unfold St
  iintro ⟨#HR, HO, HSg, HBa, HPA, HPD, HS1, HD1, HD2, HV1, HGR, HGT, HS2, HW1, HV2, HW2, HOut, HA, HB, HRest⟩
  ihave H := (FPartA_open c k n.dt hk) $$ HPA
  unfold partAny
  icases H with ⟨⟨%f, H⟩, HPA⟩
  unfold partP
  iapply (wp_store 𝒱₀ (c : Thread nD τ) none Set.univ (m := pM) (r := rR (rot c k.succ)) (Mk := Finset.univ) (S := (rR (rot c k.succ)).set)
    (setOn_access cc0_scratch0 _).subset) $$ H
  iintro H
  ihave H := (part_stored c (rot c k.succ) f) $$ H
  ihave HPD := (FPartD_close A B c k n.dt n.rs hk hr) $$ [HPD H]
  · isplitl [HPD]; · iexact HPD
    iexact H
  iapply h
  unfold St
  iframe
  iexact HR

/-- A half of a share sent to the device it is for. -/
theorem st_send1 (p : P) {dv : Dev nD → Dev nD} {off : Dev nD → Fin 2 → ℕ} {inb : ∀ a, off c a + S64x256.size a ≤ S512x512.size a}
    {offl : Fin 3 → ℕ} {inbl : ∀ a, offl a + S1x64x256.size a ≤ S8x64x512.size a} {sS sR : DmaSem sig} {hsc hsrc hdst hsem}
    {kk : PUnit → Prog (TpuEff nD τ sig (Elt F) Λ₀ .tc) α}
    (h : St A B K c R { n with rs := n.rs + 1 } ⊢ wpk c (kk ⟨⟩) Q)
    (hd : ∀ x, dv x = rot x p.2.succ := by decide +kernel) (hoff : ∀ x, off x = ![64 * (rot x p.2.succ).val, 256 * p.1.val] := by decide +kernel)
    (hoffl : offl = ![p.2.succ.val, 0, 256 * p.1.val] := by rfl) (hsS : sS = dsem 0 p.1 p.2.succ := by rfl) (hsR : sR = dsem 1 p.1 p.2.succ := by rfl)
    (hp : rk p = n.rs := by decide +kernel) (ht : p.2.val < n.dt := by decide +kernel) (hws : n.ws ≤ n.rs := by decide +kernel) (hba : n.ba = true := by decide +kernel) :
    St A B K c R n ⊢ wpk c (.op (.enqueueDma (pM.slice (Rect.unit (s := S512x512) (off c) S64x256.size inb) (fun _ => rfl))
      (.remote (Dev.tc (dv c)) ((lM.slice (Rect.unit (s := S8x64x512) offl S1x64x256.size inbl) (fun _ => rfl)).squeeze S64x256 squeezes_S1x64x256_S64x256)
        (.dma sS) hsc) (.dma sR) hsrc hdst hsem) kk) Q := by
  obtain ⟨q, k⟩ := p
  revert inb inbl hsc hsrc hdst hsem
  rw [hd c, hoff c, hoffl, hsS, hsR]
  intro inb inbl hsc hsrc hdst hsem
  obtain ⟨sg, dt, ba, rs, rr, gs, ag, ow, ws, ar, wa⟩ := n
  subst hba
  unfold St
  iintro ⟨#HR, HO, HSg, HBa, HPA, HPD, HS1, HD1, HD2, HV1, HGR, HGT, HS2, HW1, HV2, HW2, HOut, HA, HB, HRest⟩
  unfold Owe; icases HO with ⟨%W, HO⟩
  ihave H := (FSend1_open c (q, k) rs ws hp hws) $$ HS1
  icases H with ⟨⟨HtS, HtR⟩, Hcl⟩
  ihave H := (FPartD_open A B c (q, k) dt rs hp ht) $$ HPD
  icases H with ⟨Hsrc, HPD⟩
  ihave H := (FDst1_open c (q, k) rs hp) $$ HD1
  unfold stagAny
  icases H with ⟨⟨%fd, Hdst⟩, HD1⟩
  ihave Hrec := (Recs_cell A B K (c, some (0, q, k.succ))) $$ HR
  icases Hrec with ⟨#HIS, #HrS⟩
  ihave Hrec := (Recs_cell A B K (rot c k.succ, some (1, q, k.succ))) $$ HR
  icases Hrec with ⟨#HIR, #HrR⟩
  unfold partP stagP
  ihave Hsrc := (Entails.of_eq (show (((c : Thread nD τ).loc cc0_scratch0) ↦[(rP (rot c k.succ) q).set]{fullShare} (partVal A B c) : sProp 𝕄)
    = ((pSl (rot c k.succ) q).view.loc (c : Thread nD τ) ↦[(pSl (rot c k.succ) q).view.set]{fullShare} (partVal A B c)) from by rw [set_pSl])) $$ Hsrc
  ihave Hdst := (Entails.of_eq (show (((rot c k.succ : Dev nD) : Thread nD τ).loc cc0_scratch1 ↦[(rS k.succ q).set]{fullShare} fd : sProp 𝕄)
    = ((lSl k.succ q).view.loc ((rot c k.succ : Dev nD) : Thread nD τ) ↦[(lSl k.succ q).view.set]{fullShare} fd) from by rw [set_lSl])) $$ Hdst
  iapply (Rounds.wp_send_pointsTo 𝒱₀ ER (Rd A B) (c : Thread nD τ) none (κ₁ := K (c, some (0, q, k.succ))) (κ₂ := K (rot c k.succ, some (1, q, k.succ)))
      (c' := ((rot c k.succ : Dev nD) : Thread nD τ)) (src := pSl (rot c k.succ) q) (dst := lSl k.succ q)
      (r₁ := 0) (r₂ := 0) (d₁ := 0) (d₂ := 0) (fd := fd)
      (by rw [duties_x]; exact Finset.mem_singleton_self _) (by rw [duties_x]; exact Finset.mem_singleton_self _)
      () () N rfl rfl rfl (OW c sg (rs + 1) ag) (OW_first c (q, k) rs hp sg ag) (W := W)
      (by rw [payload_x, set_pSl]; exact Entails.refl _)
      (by rw [payload_x, set_lSl]; exact Entails.of_eq (pointsTo_congr (fun i hi => land_first A B c q k.succ fd i hi))))
    $$ [HO Hsrc Hdst HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  ihave HS1 := Hcl $$ Hc
  iapply h
  unfold St
  ihave HO := (Owe_intro c sg (rs + 1) ag W) $$ HO
  iframe
  iexact HR

/-- The load of a share that has arrived. -/
theorem st_load_stag (p : P) {off : Fin 3 → ℕ} {inb : ∀ a, off a + S1x64x256.size a ≤ S8x64x512.size a} {hl}
    {kk : (S1x64x256.Idx → Elt F .bf16) → Prog (TpuEff nD τ sig (Elt F) Λ₀ .tc) α}
    (h : St A B K c R n ⊢ wpk c (kk (stagHalf A B c p.1 p.2.succ)) Q)
    (hoff : off = ![p.2.succ.val, 0, 256 * p.1.val] := by rfl) (hp : rk p < n.rr := by decide +kernel) :
    St A B K c R n ⊢ wpk c (.op (.load lM (Rect.unit (s := S8x64x512) off S1x64x256.size inb).toLoadRect hl) kk) Q := by
  subst hoff
  unfold St
  iintro ⟨#HR, HO, HSg, HBa, HPA, HPD, HS1, HD1, HD2, HV1, HGR, HGT, HS2, HW1, HV2, HW2, HOut, HA, HB, HRest⟩
  ihave H := (FRecv1_look A B c p n.rr hp) $$ HV1
  unfold stagP
  icases H with ⟨⟨Hz, H⟩, Hcl⟩
  iapply (wp_load 𝒱₀ (c : Thread nD τ) none Set.univ (m := lM) (S := (rS p.2.succ p.1).set) (setOn_whole cc0_scratch1 _).subset) $$ H
  iintro H
  ihave HV1 := Hcl $$ [Hz H]
  · isplitl [Hz]; · iexact Hz
    iexact H
  iapply h
  unfold St
  iframe
  iexact HR

/-- The load of the place of a sum before it is written: whatever it holds. -/
theorem st_load_gat_own (q : Fin 2) {off : Dev nD → Fin 2 → ℕ} {inb : ∀ a, off c a + S64x256.size a ≤ S512x512.size a} {hl}
    {kk : (S64x256.Idx → Elt F .bf16) → Prog (TpuEff nD τ sig (Elt F) Λ₀ .tc) α}
    (h : ∀ v, St A B K c R n ⊢ wpk c (kk v) Q)
    (hoff : ∀ x, off x = ![64 * x.val, 256 * q.val] := by decide +kernel) (hq : q.val = n.gs := by decide +kernel) :
    St A B K c R n ⊢ wpk c (.op (.load gM (Rect.unit (s := S512x512) (off c) S64x256.size inb).toLoadRect hl) kk) Q := by
  revert inb hl
  rw [hoff c]
  intro inb hl
  unfold St
  iintro ⟨#HR, HO, HSg, HBa, HPA, HPD, HS1, HD1, HD2, HV1, HGR, HGT, HS2, HW1, HV2, HW2, HOut, HA, HB, HRest⟩
  ihave H := (FGatR_look A B c q n.gs hq) $$ HGR
  unfold gatAny gatP
  icases H with ⟨⟨%f, H⟩, Hcl⟩
  iapply (wp_load 𝒱₀ (c : Thread nD τ) none Set.univ (m := gM) (S := (rP c q).set) (setOn_whole cc0_scratch2 _).subset) $$ H
  iintro H
  ihave HGR := Hcl $$ [H]
  · iexists f; iexact H
  iapply (h _)
  unfold St
  iframe
  iexact HR

/-- A sum stored; a share of it is set aside for each of the seven copies. -/
theorem st_store_gat (q : Fin 2) {off : Dev nD → Fin 2 → ℕ} {inb : ∀ a, off c a + S64x256.size a ≤ S512x512.size a} {w : S64x256.Idx → Elt F .bf16} {hx hm}
    {kk : PUnit → Prog (TpuEff nD τ sig (Elt F) Λ₀ .tc) α}
    (h : St A B K c R { n with gs := n.gs + 1 } ⊢ wpk c (kk ⟨⟩) Q)
    (hw : w = gatBlk A B c q := by rfl)
    (hoff : ∀ x, off x = ![64 * x.val, 256 * q.val] := by decide +kernel) (hq : q.val = n.gs := by decide +kernel) (ha : n.ag ≤ 7 * q.val := by decide +kernel) :
    St A B K c R n ⊢ wpk c (.op (.store gM (Rect.unit (s := S512x512) (off c) S64x256.size inb) w Finset.univ hx hm) kk) Q := by
  revert inb hx hm
  rw [hoff c]
  intro inb hx hm
  subst hw
  unfold St
  iintro ⟨#HR, HO, HSg, HBa, HPA, HPD, HS1, HD1, HD2, HV1, HGR, HGT, HS2, HW1, HV2, HW2, HOut, HA, HB, HRest⟩
  ihave H := (FGatR_open A B c q n.gs hq) $$ HGR
  unfold gatAny
  icases H with ⟨⟨%f, H⟩, Hcl⟩
  unfold gatP
  iapply (wp_store 𝒱₀ (c : Thread nD τ) none Set.univ (m := gM) (r := rP c q) (Mk := Finset.univ) (S := (rP c q).set)
    (setOn_access cc0_scratch2 _).subset) $$ H
  iintro H
  ihave H := (show (((c : Thread nD τ).loc cc0_scratch2) ↦[(rP c q).set]{fullShare} ((gM.access (rP c q)).write (Elt F) f (gatBlk A B c q) Finset.univ) : sProp 𝕄)
      ⊢ iprop(gatP c (rP c q).set (Transfers.shareDrop fullShare 7) (gatVal A B) ∗ bigSep Finset.univ (fun k : Fin 7 => gatP c (rP c q).set (tok k.succ) (gatVal A B))) from by
    unfold gatP
    rw [pointsTo_congr (fun i hi => store_gat A B c q f i hi)]
    exact (Transfers.pointsTo_toks fullShare 7).1) $$ H
  icases H with ⟨Hd, Ht⟩
  ihave HGR := Hcl $$ [Hd]
  · unfold gatP; iexact Hd
  ihave HGT := (FGatT_close A B c q n.gs n.ag hq ha) $$ [HGT Ht]
  · isplitl [HGT]; · iexact HGT
    iexact Ht
  iapply h
  unfold St
  iframe
  iexact HR

/-- A sum sent to another device. -/
theorem st_send2 (p : P) {dv : Dev nD → Dev nD} {off : Dev nD → Fin 2 → ℕ} {inb : ∀ a, off c a + S64x256.size a ≤ S512x512.size a}
    {inb' : ∀ a, off c a + S64x256.size a ≤ S512x512.size a} {sS sR : DmaSem sig} {hsc hsrc hdst hsem}
    {kk : PUnit → Prog (TpuEff nD τ sig (Elt F) Λ₀ .tc) α}
    (h : St A B K c R { n with ag := n.ag + 1 } ⊢ wpk c (kk ⟨⟩) Q)
    (hd : ∀ x, dv x = rot x p.2.succ := by decide +kernel) (hoff : ∀ x, off x = ![64 * x.val, 256 * p.1.val] := by decide +kernel)
    (hsS : sS = dsem 2 p.1 p.2.succ := by rfl) (hsR : sR = dsem 3 p.1 p.2.succ := by rfl)
    (hp : rk p = n.ag := by decide +kernel) (ht : p.1.val < n.gs := by decide +kernel) (hwa : n.wa ≤ n.ag := by decide +kernel) (hba : n.ba = true := by decide +kernel) :
    St A B K c R n ⊢ wpk c (.op (.enqueueDma (gM.slice (Rect.unit (s := S512x512) (off c) S64x256.size inb) (fun _ => rfl))
      (.remote (Dev.tc (dv c)) (gM.slice (Rect.unit (s := S512x512) (off c) S64x256.size inb') (fun _ => rfl))
        (.dma sS) hsc) (.dma sR) hsrc hdst hsem) kk) Q := by
  obtain ⟨q, k⟩ := p
  revert inb inb' hsc hsrc hdst hsem
  rw [hd c, hoff c, hsS, hsR]
  intro inb inb' hsc hsrc hdst hsem
  obtain ⟨sg, dt, ba, rs, rr, gs, ag, ow, ws, ar, wa⟩ := n
  subst hba
  unfold St
  iintro ⟨#HR, HO, HSg, HBa, HPA, HPD, HS1, HD1, HD2, HV1, HGR, HGT, HS2, HW1, HV2, HW2, HOut, HA, HB, HRest⟩
  unfold Owe; icases HO with ⟨%W, HO⟩
  ihave H := (FSend2_open c (q, k) ag wa hp hwa) $$ HS2
  icases H with ⟨⟨HtS, HtR⟩, Hcl⟩
  ihave H := (FGatT_open A B c (q, k) gs ag hp ht) $$ HGT
  icases H with ⟨Hsrc, HGT⟩
  ihave H := (FDst2_open c (q, k) ag hp) $$ HD2
  unfold gatAny
  icases H with ⟨⟨%fd, Hdst⟩, HD2⟩
  ihave Hrec := (Recs_cell A B K (c, some (2, q, k.succ))) $$ HR
  icases Hrec with ⟨#HIS, #HrS⟩
  ihave Hrec := (Recs_cell A B K (rot c k.succ, some (3, q, k.succ))) $$ HR
  icases Hrec with ⟨#HIR, #HrR⟩
  unfold gatP
  ihave Hsrc := (Entails.of_eq (show (((c : Thread nD τ).loc cc0_scratch2) ↦[(rP c q).set]{tok k.succ} (gatVal A B) : sProp 𝕄)
    = ((gSl c q).view.loc (c : Thread nD τ) ↦[(gSl c q).view.set]{tok k.succ} (gatVal A B)) from by rw [set_gSl])) $$ Hsrc
  ihave Hdst := (Entails.of_eq (show (((rot c k.succ : Dev nD) : Thread nD τ).loc cc0_scratch2 ↦[(rP c q).set]{fullShare} fd : sProp 𝕄)
    = ((gSl c q).view.loc ((rot c k.succ : Dev nD) : Thread nD τ) ↦[(gSl c q).view.set]{fullShare} fd) from by rw [set_gSl])) $$ Hdst
  iapply (Rounds.wp_send_pointsTo 𝒱₀ ER (Rd A B) (c : Thread nD τ) none (κ₁ := K (c, some (2, q, k.succ))) (κ₂ := K (rot c k.succ, some (3, q, k.succ)))
      (c' := ((rot c k.succ : Dev nD) : Thread nD τ)) (src := gSl c q) (dst := gSl c q)
      (r₁ := 0) (r₂ := 0) (d₁ := 0) (d₂ := 0) (fd := fd)
      (by rw [duties_x]; exact Finset.mem_singleton_self _) (by rw [duties_x]; exact Finset.mem_singleton_self _)
      () () N rfl rfl rfl (OW c sg rs (ag + 1)) (OW_second c (q, k) ag hp sg rs) (W := W)
      (by rw [payload_x, set_gSl]; exact Entails.refl _)
      (by
        rw [payload_x, set_gSl]
        show _ ⊢ gatP (rot c k.succ) (rP (bak (rot c k.succ) k.succ) q).set fullShare (gatVal A B)
        rw [bak_rot]
        exact Entails.of_eq (pointsTo_congr (fun i hi => land_second A B c q fd i hi))))
    $$ [HO Hsrc Hdst HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  ihave HS2 := Hcl $$ Hc
  iapply h
  unfold St
  ihave HO := (Owe_intro c sg rs (ag + 1) W) $$ HO
  iframe
  iexact HR

/-- The load of a sum that has arrived. -/
theorem st_load_gat (p : P) {off : Dev nD → Fin 2 → ℕ} {inb : ∀ a, off c a + S64x256.size a ≤ S512x512.size a} {hl}
    {kk : (S64x256.Idx → Elt F .bf16) → Prog (TpuEff nD τ sig (Elt F) Λ₀ .tc) α}
    (h : St A B K c R n ⊢ wpk c (kk (gatBlk A B (bak c p.2.succ) p.1)) Q)
    (hoff : ∀ x, off x = ![64 * (bak x p.2.succ).val, 256 * p.1.val] := by decide +kernel) (hp : rk p < n.ar := by decide +kernel) :
    St A B K c R n ⊢ wpk c (.op (.load gM (Rect.unit (s := S512x512) (off c) S64x256.size inb).toLoadRect hl) kk) Q := by
  revert inb hl
  rw [hoff c]
  intro inb hl
  unfold St
  iintro ⟨#HR, HO, HSg, HBa, HPA, HPD, HS1, HD1, HD2, HV1, HGR, HGT, HS2, HW1, HV2, HW2, HOut, HA, HB, HRest⟩
  ihave H := (FRecv2_look A B c p n.ar hp) $$ HV2
  unfold gatP
  icases H with ⟨⟨Hz, H⟩, Hcl⟩
  iapply (wp_load 𝒱₀ (c : Thread nD τ) none Set.univ (m := gM) (S := (rP (bak c p.2.succ) p.1).set) (setOn_whole cc0_scratch2 _).subset) $$ H
  iintro H
  ihave HV2 := Hcl $$ [Hz H]
  · isplitl [Hz]; · iexact Hz
    iexact H
  rw [read_gat]
  iapply h
  unfold St
  iframe
  iexact HR

/-- The load of a place of the result before it is written: whatever it holds. -/
theorem st_load_out {r : LoadRect S512x512} {hl} {kk : (r.shape.Idx → Elt F .f32) → Prog (TpuEff nD τ sig (Elt F) Λ₀ .tc) α}
    (h : ∀ v, St A B K c R n ⊢ wpk c (kk v) Q) : St A B K c R n ⊢ wpk c (.op (.load oM r hl) kk) Q := by
  unfold St
  iintro ⟨#HR, HO, HSg, HBa, HPA, HPD, HS1, HD1, HD2, HV1, HGR, HGT, HS2, HW1, HV2, HW2, HOut, HA, HB, HRest⟩
  unfold FOut
  icases HOut with ⟨%f, %hf, HOut⟩
  iapply (wp_load 𝒱₀ (c : Thread nD τ) none Set.univ (m := oM) (Finset.subset_univ _)) $$ HOut
  iintro HOut
  iapply (h _)
  unfold St FOut
  iframe
  isplitr; · iexact HR
  iexists f
  isplitr; · ipureintro; exact hf
  iexact HOut

/-- A half block of the result stored. -/
theorem st_store_out (r : Dev nD → Dev nD) (q : Fin 2) {off : Dev nD → Fin 2 → ℕ} {inb : ∀ a, off c a + S64x256.size a ≤ S512x512.size a}
    {w : S64x256.Idx → Elt F .f32} {hx hm} {kk : PUnit → Prog (TpuEff nD τ sig (Elt F) Λ₀ .tc) α}
    (h : St A B K c R { n with ow := n.ow + 1 } ⊢ wpk c (kk ⟨⟩) Q) (hw : w = outBlk A B c (r c) q)
    (hoff : ∀ x, off x = ![64 * (r x).val, 256 * q.val] := by decide +kernel) (hn : ∀ x, outOrd x (r x) q = n.ow := by decide +kernel) :
    St A B K c R n ⊢ wpk c (.op (.store oM (Rect.unit (s := S512x512) (off c) S64x256.size inb) w Finset.univ hx hm) kk) Q := by
  revert inb hx hm
  rw [hoff c]
  intro inb hx hm
  subst hw
  unfold St
  iintro ⟨#HR, HO, HSg, HBa, HPA, HPD, HS1, HD1, HD2, HV1, HGR, HGT, HS2, HW1, HV2, HW2, HOut, HA, HB, HRest⟩
  unfold FOut
  icases HOut with ⟨%f, %hf, HOut⟩
  iapply (wp_store 𝒱₀ (c : Thread nD τ) none Set.univ (m := oM) (r := rP (r c) q) (Mk := Finset.univ) (S := Finset.univ) (Finset.subset_univ _)) $$ HOut
  iintro HOut
  iapply h
  unfold St FOut
  iframe
  isplitr; · iexact HR
  iexists _
  isplitr; · ipureintro; exact OutOK_step A B c (r c) q n.ow (hn c) f hf
  iexact HOut

end Cert.KProof
-- ==== Proof.Parts.lean ====
/-
# How the body's parts are run

The body is printed in parts, each taking the same buffers and semaphores.
-/
module

public import proofs.«01_k».proof.Proof.Steps2

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
variable {α : Type} {Q : α → sProp (MT nD τ sig Unit (Elt F) ℕ UU ℕ)}

/-- A part of the body at the kernel's buffers and semaphores. -/
abbrev atArgs {β : Sort*} (f : (a0 : Memref sig .tc .vmem S512x256 .f32) → a0.IsWhole → (a1 : Memref sig .tc .vmem S256x512 .f32) → a1.IsWhole
    → (a2 : Memref sig .tc .vmem S512x512 .f32) → a2.IsWhole → (a3 : Memref sig .tc .vmem S512x512 .bf16) → a3.IsWhole
    → (a4 : Memref sig .tc .vmem S8x64x512 .bf16) → a4.IsWhole → (a5 : Memref sig .tc .vmem S512x512 .bf16) → a5.IsWhole
    → DmaSems sig S2x8 → DmaSems sig S2x8 → DmaSems sig S2x8 → DmaSems sig S2x8 → β) : β :=
  f aM (Memref.isWhole_whole _) bM (Memref.isWhole_whole _) oM (Memref.isWhole_whole _) pM (Memref.isWhole_whole _) lM (Memref.isWhole_whole _)
    gM (Memref.isWhole_whole _) cc0_scratch3 cc0_scratch4 cc0_scratch5 cc0_scratch6

/-- A part that reads which device it runs on. -/
theorem st_device {kk : Dev nD → Prog (TpuEff nD τ sig (Elt F) Λ₀ .tc) α} (h : St A B K c R n ⊢ wpk c (kk c) Q) :
    St A B K c R n ⊢ wpk c (.op .deviceId kk) Q := by
  unfold wpk; rw [wp_deviceId]; exact h
/-- The end of a part. -/
theorem st_ret {a : α} (h : St A B K c R n ⊢ Q a) : St A B K c R n ⊢ wpk c (.ret a) Q := by
  unfold wpk; rw [wp_ret]
  refine h.trans ?_
  iintro H; imodintro; iexact H

/-- No device is at a distance other than 0 from itself. -/
theorem bak_ne (c : Dev nD) (k : Fin 7) : bak c k.succ ≠ c := by revert c k; decide
variable (A B c)
/-- The device's own block of the result is its sum, -/
theorem outBlk_own (q : Fin 2) : outBlk A B c c q = acc A B c q := if_pos rfl
/-- and the others are the rounded sums. -/
theorem outBlk_bak (q : Fin 2) (k : Fin 7) : outBlk A B c (bak c k.succ) q = k0_pay22 (gatBlk A B (bak c k.succ) q) := if_neg (bak_ne c k)

end Cert.KProof
-- ==== Proof.Body1.lean ====
/-
# The body, the signals, the shares and the first copies

One lemma per part of the printed body: its steps in order.
-/
module

public import proofs.«01_k».proof.Proof.Parts

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
/-- Here the device signals. -/
theorem run_part1 {Q : (Σ' (d0 : Dev nD) (v2 : BitVec 32) (v3 : Sems sig S_) (v30 : BitVec 32) (c8_i32_18 : BitVec 32), BitVec 1) → sProp (MT nD τ sig Unit (Elt F) ℕ UU ℕ)}
    (h : ∀ u1 : BitVec 32, ∀ u3 : BitVec 32, ∀ u4 : BitVec 32, ∀ u5 : BitVec 1, St A B K c R ⟨2, 0, false, 0, 0, 0, 0, 0, 0, 0, 0⟩ ⊢ Q ⟨c, u1, SemArray.scalar (sig.barrier 0 rfl), u3, u4, u5⟩) :
    St A B K c R ⟨0, 0, false, 0, 0, 0, 0, 0, 0, 0, 0⟩ ⊢ wpk c (atArgs (k0_part1 (F := F))) Q := by
  unfold atArgs
  rw [k0_part1_eq_skeleton]; unfold k0_part1_skel
  simp only [semSignalWord, semWaitWord, Prog.lift, Prog.bind_op, Prog.bind_ret, Prog.pure_eq_ret]
  refine st_device ?_
  refine st_signal (dv := fun x => ⟨k0_dev1 x, k0_dev1_lt x⟩) 0 ?_
  refine st_signal (dv := fun x => ⟨k0_dev2 x, k0_dev2_lt x⟩) 1 ?_
  exact st_ret (h _ _ _ _)

/-- Here the device signals. -/
theorem run_part2 {v2 : BitVec 32} {v30 : BitVec 32} {c8_i32_18 : BitVec 32} {v31 : BitVec 1} {Q : (Σ' (v59 : BitVec 32) (v64 : BitVec 1), BitVec 32) → sProp (MT nD τ sig Unit (Elt F) ℕ UU ℕ)}
    (h : ∀ u0 : BitVec 32, ∀ u1 : BitVec 1, ∀ u2 : BitVec 32, St A B K c R ⟨4, 0, false, 0, 0, 0, 0, 0, 0, 0, 0⟩ ⊢ Q ⟨u0, u1, u2⟩) :
    St A B K c R ⟨2, 0, false, 0, 0, 0, 0, 0, 0, 0, 0⟩ ⊢ wpk c (atArgs (k0_part2 (F := F)) c v2 (SemArray.scalar (sig.barrier 0 rfl)) v30 c8_i32_18 v31) Q := by
  unfold atArgs
  rw [k0_part2_eq_skeleton]; unfold k0_part2_skel
  simp only [semSignalWord, semWaitWord, Prog.lift, Prog.bind_op, Prog.bind_ret, Prog.pure_eq_ret]
  refine st_signal (dv := fun x => ⟨k0_dev3 x, k0_dev3_lt x⟩) 2 ?_
  refine st_signal (dv := fun x => ⟨k0_dev4 x, k0_dev4_lt x⟩) 3 ?_
  exact st_ret (h _ _ _)

/-- Here the device signals. -/
theorem run_part3 {v2 : BitVec 32} {v59 : BitVec 32} {v64 : BitVec 1} {v65 : BitVec 32} {Q : (Σ' (v95 : BitVec 32) (c8_i32_64 : BitVec 32), BitVec 1) → sProp (MT nD τ sig Unit (Elt F) ℕ UU ℕ)}
    (h : ∀ u0 : BitVec 32, ∀ u1 : BitVec 32, ∀ u2 : BitVec 1, St A B K c R ⟨7, 0, false, 0, 0, 0, 0, 0, 0, 0, 0⟩ ⊢ Q ⟨u0, u1, u2⟩) :
    St A B K c R ⟨4, 0, false, 0, 0, 0, 0, 0, 0, 0, 0⟩ ⊢ wpk c (atArgs (k0_part3 (F := F)) c v2 (SemArray.scalar (sig.barrier 0 rfl)) v59 v64 v65) Q := by
  unfold atArgs
  rw [k0_part3_eq_skeleton]; unfold k0_part3_skel
  simp only [semSignalWord, semWaitWord, Prog.lift, Prog.bind_op, Prog.bind_ret, Prog.pure_eq_ret]
  refine st_signal (dv := fun x => ⟨k0_dev5 x, k0_dev5_lt x⟩) 4 ?_
  refine st_signal (dv := fun x => ⟨k0_dev6 x, k0_dev6_lt x⟩) 5 ?_
  refine st_signal (dv := fun x => ⟨k0_dev7 x, k0_dev7_lt x⟩) 6 ?_
  exact st_ret (h _ _ _)

/-- Here the device forms shares. -/
theorem run_part4 {v2 : BitVec 32} {v95 : BitVec 32} {c8_i32_64 : BitVec 32} {v96 : BitVec 1} {Q : (Σ' (v129 : BitVec 32), FVec F S64x256 .f32) → sProp (MT nD τ sig Unit (Elt F) ℕ UU ℕ)}
    (h : ∀ u0 : BitVec 32, St A B K c R ⟨7, 1, false, 0, 0, 0, 0, 0, 0, 0, 0⟩ ⊢ Q ⟨u0, k0_pay2 (aRows A c (rot c (Fin.succ 1)))⟩) :
    St A B K c R ⟨7, 0, false, 0, 0, 0, 0, 0, 0, 0, 0⟩ ⊢ wpk c (atArgs (k0_part4 (F := F)) c v2 v95 c8_i32_64 v96) Q := by
  unfold atArgs
  rw [k0_part4_eq_skeleton]; unfold k0_part4_skel
  simp only [semSignalWord, semWaitWord, Prog.lift, Prog.bind_op, Prog.bind_ret, Prog.pure_eq_ret]
  refine st_load_a (off := fun x => k0_off1 x 1#32) (fun x => rot x (Fin.succ 0)) ?_
  refine st_load_b ?_
  refine st_load_part (off := fun x => k0_off2 x 1#32) 0 fun _ => ?_
  refine st_store_part (off := fun x => k0_off2 x 1#32) 0 ?_
  refine st_load_a (off := fun x => k0_off1 x 2#32) (fun x => rot x (Fin.succ 1)) ?_
  exact st_ret (h _)

/-- Here the device forms shares and waits for the barrier. -/
theorem run_part5 {v2 : BitVec 32} {v129 : BitVec 32} {Q : (Σ' (v167 : BitVec 32) (c8_i32_104 : BitVec 32), BitVec 1) → sProp (MT nD τ sig Unit (Elt F) ℕ UU ℕ)}
    (h : ∀ u0 : BitVec 32, ∀ u1 : BitVec 32, ∀ u2 : BitVec 1, St A B K c R ⟨7, 3, true, 0, 0, 0, 0, 0, 0, 0, 0⟩ ⊢ Q ⟨u0, u1, u2⟩) :
    St A B K c R ⟨7, 1, false, 0, 0, 0, 0, 0, 0, 0, 0⟩ ⊢ wpk c (atArgs (k0_part5 (F := F)) c v2 (SemArray.scalar (sig.barrier 0 rfl)) v129 (k0_pay2 (aRows A c (rot c (Fin.succ 1))))) Q := by
  unfold atArgs
  rw [k0_part5_eq_skeleton]; unfold k0_part5_skel
  simp only [semSignalWord, semWaitWord, Prog.lift, Prog.bind_op, Prog.bind_ret, Prog.pure_eq_ret]
  refine st_load_b ?_
  refine st_load_part (off := fun x => k0_off2 x 2#32) 1 fun _ => ?_
  refine st_store_part (off := fun x => k0_off2 x 2#32) 1 ?_
  refine st_load_a (off := fun x => k0_off1 x 3#32) (fun x => rot x (Fin.succ 2)) ?_
  refine st_load_b ?_
  refine st_load_part (off := fun x => k0_off2 x 3#32) 2 fun _ => ?_
  refine st_store_part (off := fun x => k0_off2 x 3#32) 2 ?_
  refine st_bar_wait ?_
  exact st_ret (h _ _ _)

/-- Here the device sends shares. -/
theorem run_part6 {v2 : BitVec 32} {v167 : BitVec 32} {c8_i32_104 : BitVec 32} {v168 : BitVec 1} {Q : (Σ' (v177 : BitVec 32), BitVec 32) → sProp (MT nD τ sig Unit (Elt F) ℕ UU ℕ)}
    (h : ∀ u0 : BitVec 32, ∀ u1 : BitVec 32, St A B K c R ⟨7, 3, true, 1, 0, 0, 0, 0, 0, 0, 0⟩ ⊢ Q ⟨u0, u1⟩) :
    St A B K c R ⟨7, 3, true, 0, 0, 0, 0, 0, 0, 0, 0⟩ ⊢ wpk c (atArgs (k0_part6 (F := F)) c v2 v167 c8_i32_104 v168) Q := by
  unfold atArgs
  rw [k0_part6_eq_skeleton]; unfold k0_part6_skel
  simp only [semSignalWord, semWaitWord, Prog.lift, Prog.bind_op, Prog.bind_ret, Prog.pure_eq_ret]
  refine st_send1 (dv := fun x => ⟨k0_dev8 x, k0_dev8_lt x⟩) (off := fun x => k0_off3 x 1#32) (0, 0) ?_
  exact st_ret (h _ _)

/-- Here the device sends shares. -/
theorem run_part7 {v2 : BitVec 32} {v198 : BitVec 32} {Q : (Σ' (v219 : BitVec 32) (v230 : BitVec 32) (c8_i32_158 : BitVec 32), BitVec 1) → sProp (MT nD τ sig Unit (Elt F) ℕ UU ℕ)}
    (h : ∀ u0 : BitVec 32, ∀ u1 : BitVec 32, ∀ u2 : BitVec 32, ∀ u3 : BitVec 1, St A B K c R ⟨7, 3, true, 3, 0, 0, 0, 0, 0, 0, 0⟩ ⊢ Q ⟨u0, u1, u2, u3⟩) :
    St A B K c R ⟨7, 3, true, 1, 0, 0, 0, 0, 0, 0, 0⟩ ⊢ wpk c (atArgs (k0_part7 (F := F)) c v2 v198) Q := by
  unfold atArgs
  rw [k0_part7_eq_skeleton]; unfold k0_part7_skel
  simp only [semSignalWord, semWaitWord, Prog.lift, Prog.bind_op, Prog.bind_ret, Prog.pure_eq_ret]
  refine st_send1 (dv := fun x => ⟨k0_dev9 x, k0_dev9_lt x⟩) (off := fun x => k0_off3 x 2#32) (0, 1) ?_
  refine st_send1 (dv := fun x => ⟨k0_dev10 x, k0_dev10_lt x⟩) (off := fun x => k0_off3 x 3#32) (0, 2) ?_
  exact st_ret (h _ _ _ _)

/-- Here the device forms shares. -/
theorem run_part8 {v2 : BitVec 32} {v230 : BitVec 32} {c8_i32_158 : BitVec 32} {v231 : BitVec 1} {Q : (Σ' (v264 : BitVec 32), BitVec 32) → sProp (MT nD τ sig Unit (Elt F) ℕ UU ℕ)}
    (h : ∀ u0 : BitVec 32, ∀ u1 : BitVec 32, St A B K c R ⟨7, 4, true, 3, 0, 0, 0, 0, 0, 0, 0⟩ ⊢ Q ⟨u0, u1⟩) :
    St A B K c R ⟨7, 3, true, 3, 0, 0, 0, 0, 0, 0, 0⟩ ⊢ wpk c (atArgs (k0_part8 (F := F)) c v2 v230 c8_i32_158 v231) Q := by
  unfold atArgs
  rw [k0_part8_eq_skeleton]; unfold k0_part8_skel
  simp only [semSignalWord, semWaitWord, Prog.lift, Prog.bind_op, Prog.bind_ret, Prog.pure_eq_ret]
  refine st_load_a (off := fun x => k0_off1 x 4#32) (fun x => rot x (Fin.succ 3)) ?_
  refine st_load_b ?_
  refine st_load_part (off := fun x => k0_off2 x 4#32) 3 fun _ => ?_
  refine st_store_part (off := fun x => k0_off2 x 4#32) 3 ?_
  exact st_ret (h _ _)

/-- Here the device sends shares and forms shares. -/
theorem run_part9 {v2 : BitVec 32} {v264 : BitVec 32} {c1_i32_184 : BitVec 32} {Q : (Σ' (v299 : BitVec 32), BitVec 32) → sProp (MT nD τ sig Unit (Elt F) ℕ UU ℕ)}
    (h : ∀ u0 : BitVec 32, ∀ u1 : BitVec 32, St A B K c R ⟨7, 5, true, 4, 0, 0, 0, 0, 0, 0, 0⟩ ⊢ Q ⟨u0, u1⟩) :
    St A B K c R ⟨7, 4, true, 3, 0, 0, 0, 0, 0, 0, 0⟩ ⊢ wpk c (atArgs (k0_part9 (F := F)) c v2 v264 c1_i32_184) Q := by
  unfold atArgs
  rw [k0_part9_eq_skeleton]; unfold k0_part9_skel
  simp only [semSignalWord, semWaitWord, Prog.lift, Prog.bind_op, Prog.bind_ret, Prog.pure_eq_ret]
  refine st_send1 (dv := fun x => ⟨k0_dev11 x, k0_dev11_lt x⟩) (off := fun x => k0_off3 x 4#32) (0, 3) ?_
  refine st_load_a (off := fun x => k0_off1 x 5#32) (fun x => rot x (Fin.succ 4)) ?_
  refine st_load_b ?_
  refine st_load_part (off := fun x => k0_off2 x 5#32) 4 fun _ => ?_
  refine st_store_part (off := fun x => k0_off2 x 5#32) 4 ?_
  exact st_ret (h _ _)

/-- Here the device sends shares. -/
theorem run_part10 {v2 : BitVec 32} {v299 : BitVec 32} {v301 : BitVec 32} {Q : (Σ' (v309 : BitVec 32) (v330 : BitVec 32) (v334 : FVec F S64x256 .f32), Vec F S256x512 .f32) → sProp (MT nD τ sig Unit (Elt F) ℕ UU ℕ)}
    (h : ∀ u0 : BitVec 32, ∀ u1 : BitVec 32, St A B K c R ⟨7, 5, true, 5, 0, 0, 0, 0, 0, 0, 0⟩ ⊢ Q ⟨u0, u1, k0_pay7 (aRows A c (rot c (Fin.succ 5))), B c⟩) :
    St A B K c R ⟨7, 5, true, 4, 0, 0, 0, 0, 0, 0, 0⟩ ⊢ wpk c (atArgs (k0_part10 (F := F)) c v2 v299 v301) Q := by
  unfold atArgs
  rw [k0_part10_eq_skeleton]; unfold k0_part10_skel
  simp only [semSignalWord, semWaitWord, Prog.lift, Prog.bind_op, Prog.bind_ret, Prog.pure_eq_ret]
  refine st_send1 (dv := fun x => ⟨k0_dev12 x, k0_dev12_lt x⟩) (off := fun x => k0_off3 x 5#32) (0, 4) ?_
  refine st_load_a (off := fun x => k0_off1 x 6#32) (fun x => rot x (Fin.succ 5)) ?_
  refine st_load_b ?_
  exact st_ret (h _ _)

/-- Here the device forms shares and sends shares. -/
theorem run_part11 {v2 : BitVec 32} {v330 : BitVec 32} {Q : (Σ' (v354 : BitVec 32) (v367 : BitVec 32), BitVec 32) → sProp (MT nD τ sig Unit (Elt F) ℕ UU ℕ)}
    (h : ∀ u0 : BitVec 32, ∀ u1 : BitVec 32, ∀ u2 : BitVec 32, St A B K c R ⟨7, 6, true, 6, 0, 0, 0, 0, 0, 0, 0⟩ ⊢ Q ⟨u0, u1, u2⟩) :
    St A B K c R ⟨7, 5, true, 5, 0, 0, 0, 0, 0, 0, 0⟩ ⊢ wpk c (atArgs (k0_part11 (F := F)) c v2 v330 (k0_pay7 (aRows A c (rot c (Fin.succ 5)))) (B c)) Q := by
  unfold atArgs
  rw [k0_part11_eq_skeleton]; unfold k0_part11_skel
  simp only [semSignalWord, semWaitWord, Prog.lift, Prog.bind_op, Prog.bind_ret, Prog.pure_eq_ret]
  refine st_load_part (off := fun x => k0_off2 x 6#32) 5 fun _ => ?_
  refine st_store_part (off := fun x => k0_off2 x 6#32) 5 ?_
  refine st_send1 (dv := fun x => ⟨k0_dev13 x, k0_dev13_lt x⟩) (off := fun x => k0_off3 x 6#32) (0, 5) ?_
  exact st_ret (h _ _ _)

/-- Here the device forms shares. -/
theorem run_part12 {v2 : BitVec 32} {v367 : BitVec 32} {v368 : BitVec 32} {Q : (BitVec 32) → sProp (MT nD τ sig Unit (Elt F) ℕ UU ℕ)}
    (h : ∀ u0 : BitVec 32, St A B K c R ⟨7, 7, true, 6, 0, 0, 0, 0, 0, 0, 0⟩ ⊢ Q (u0)) :
    St A B K c R ⟨7, 6, true, 6, 0, 0, 0, 0, 0, 0, 0⟩ ⊢ wpk c (atArgs (k0_part12 (F := F)) c v2 v367 v368) Q := by
  unfold atArgs
  rw [k0_part12_eq_skeleton]; unfold k0_part12_skel
  simp only [semSignalWord, semWaitWord, Prog.lift, Prog.bind_op, Prog.bind_ret, Prog.pure_eq_ret]
  refine st_load_a (off := fun x => k0_off1 x 7#32) (fun x => rot x (Fin.succ 6)) ?_
  refine st_load_b ?_
  refine st_load_part (off := fun x => k0_off2 x 7#32) 6 fun _ => ?_
  refine st_store_part (off := fun x => k0_off2 x 7#32) 6 ?_
  exact st_ret (h _)

/-- Here the device sends shares. -/
theorem run_part13 {v2 : BitVec 32} {Q : (Σ' (v420 : BitVec 32) (v433 : BitVec 32) (v434 : BitVec 32), BitVec 32) → sProp (MT nD τ sig Unit (Elt F) ℕ UU ℕ)}
    (h : ∀ u0 : BitVec 32, ∀ u1 : BitVec 32, ∀ u2 : BitVec 32, ∀ u3 : BitVec 32, St A B K c R ⟨7, 7, true, 8, 0, 0, 0, 0, 0, 0, 0⟩ ⊢ Q ⟨u0, u1, u2, u3⟩) :
    St A B K c R ⟨7, 7, true, 6, 0, 0, 0, 0, 0, 0, 0⟩ ⊢ wpk c (atArgs (k0_part13 (F := F)) c v2) Q := by
  unfold atArgs
  rw [k0_part13_eq_skeleton]; unfold k0_part13_skel
  simp only [semSignalWord, semWaitWord, Prog.lift, Prog.bind_op, Prog.bind_ret, Prog.pure_eq_ret]
  refine st_send1 (dv := fun x => ⟨k0_dev14 x, k0_dev14_lt x⟩) (off := fun x => k0_off3 x 7#32) (0, 6) ?_
  refine st_send1 (dv := fun x => ⟨k0_dev15 x, k0_dev15_lt x⟩) (off := fun x => k0_off4 x 1#32) (1, 0) ?_
  exact st_ret (h _ _ _ _)

end Cert.KProof
-- ==== Proof.Body2.lean ====
/-
# The body, the rest of the first exchange, the first sums

One lemma per part of the printed body: its steps in order.
-/
module

public import proofs.«01_k».proof.Proof.Parts

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
/-- Here the device sends shares. -/
theorem run_part14 {v2 : BitVec 32} {v433 : BitVec 32} {v434 : BitVec 32} {c0_i32_306 : BitVec 32} {Q : (Σ' (v441 : BitVec 32), BitVec 32) → sProp (MT nD τ sig Unit (Elt F) ℕ UU ℕ)}
    (h : ∀ u0 : BitVec 32, ∀ u1 : BitVec 32, St A B K c R ⟨7, 7, true, 9, 0, 0, 0, 0, 0, 0, 0⟩ ⊢ Q ⟨u0, u1⟩) :
    St A B K c R ⟨7, 7, true, 8, 0, 0, 0, 0, 0, 0, 0⟩ ⊢ wpk c (atArgs (k0_part14 (F := F)) c v2 v433 v434 c0_i32_306) Q := by
  unfold atArgs
  rw [k0_part14_eq_skeleton]; unfold k0_part14_skel
  simp only [semSignalWord, semWaitWord, Prog.lift, Prog.bind_op, Prog.bind_ret, Prog.pure_eq_ret]
  refine st_send1 (dv := fun x => ⟨k0_dev16 x, k0_dev16_lt x⟩) (off := fun x => k0_off4 x 2#32) (1, 1) ?_
  exact st_ret (h _ _)

/-- Here the device sends shares. -/
theorem run_part15 {v2 : BitVec 32} {Q : (Σ' (v483 : BitVec 32) (v496 : BitVec 32) (v497 : BitVec 32), BitVec 32) → sProp (MT nD τ sig Unit (Elt F) ℕ UU ℕ)}
    (h : ∀ u0 : BitVec 32, ∀ u1 : BitVec 32, ∀ u2 : BitVec 32, ∀ u3 : BitVec 32, St A B K c R ⟨7, 7, true, 11, 0, 0, 0, 0, 0, 0, 0⟩ ⊢ Q ⟨u0, u1, u2, u3⟩) :
    St A B K c R ⟨7, 7, true, 9, 0, 0, 0, 0, 0, 0, 0⟩ ⊢ wpk c (atArgs (k0_part15 (F := F)) c v2) Q := by
  unfold atArgs
  rw [k0_part15_eq_skeleton]; unfold k0_part15_skel
  simp only [semSignalWord, semWaitWord, Prog.lift, Prog.bind_op, Prog.bind_ret, Prog.pure_eq_ret]
  refine st_send1 (dv := fun x => ⟨k0_dev17 x, k0_dev17_lt x⟩) (off := fun x => k0_off4 x 3#32) (1, 2) ?_
  refine st_send1 (dv := fun x => ⟨k0_dev18 x, k0_dev18_lt x⟩) (off := fun x => k0_off4 x 4#32) (1, 3) ?_
  exact st_ret (h _ _ _ _)

/-- Here the device sends shares. -/
theorem run_part16 {v2 : BitVec 32} {v496 : BitVec 32} {v497 : BitVec 32} {c0_i32_360 : BitVec 32} {Q : (Σ' (v504 : BitVec 32), BitVec 32) → sProp (MT nD τ sig Unit (Elt F) ℕ UU ℕ)}
    (h : ∀ u0 : BitVec 32, ∀ u1 : BitVec 32, St A B K c R ⟨7, 7, true, 12, 0, 0, 0, 0, 0, 0, 0⟩ ⊢ Q ⟨u0, u1⟩) :
    St A B K c R ⟨7, 7, true, 11, 0, 0, 0, 0, 0, 0, 0⟩ ⊢ wpk c (atArgs (k0_part16 (F := F)) c v2 v496 v497 c0_i32_360) Q := by
  unfold atArgs
  rw [k0_part16_eq_skeleton]; unfold k0_part16_skel
  simp only [semSignalWord, semWaitWord, Prog.lift, Prog.bind_op, Prog.bind_ret, Prog.pure_eq_ret]
  refine st_send1 (dv := fun x => ⟨k0_dev19 x, k0_dev19_lt x⟩) (off := fun x => k0_off4 x 5#32) (1, 4) ?_
  exact st_ret (h _ _)

/-- Here the device sends shares. -/
theorem run_part17 {v2 : BitVec 32} {Q : (Σ' (v546 : BitVec 32) (v560 : FVec F S64x256 .f32), Vec F S256x512 .f32) → sProp (MT nD τ sig Unit (Elt F) ℕ UU ℕ)}
    (h : ∀ u0 : BitVec 32, St A B K c R ⟨7, 7, true, 14, 0, 0, 0, 0, 0, 0, 0⟩ ⊢ Q ⟨u0, k0_pay10 (aRows A c c), B c⟩) :
    St A B K c R ⟨7, 7, true, 12, 0, 0, 0, 0, 0, 0, 0⟩ ⊢ wpk c (atArgs (k0_part17 (F := F)) c v2) Q := by
  unfold atArgs
  rw [k0_part17_eq_skeleton]; unfold k0_part17_skel
  simp only [semSignalWord, semWaitWord, Prog.lift, Prog.bind_op, Prog.bind_ret, Prog.pure_eq_ret]
  refine st_send1 (dv := fun x => ⟨k0_dev20 x, k0_dev20_lt x⟩) (off := fun x => k0_off4 x 6#32) (1, 5) ?_
  refine st_send1 (dv := fun x => ⟨k0_dev21 x, k0_dev21_lt x⟩) (off := fun x => k0_off4 x 7#32) (1, 6) ?_
  refine st_load_a (off := fun x => k0_off5 x) (fun x => x) ?_
  refine st_load_b ?_
  exact st_ret (h _)

/-- Here the device takes shares that have arrived. -/
theorem run_part18 {v177 : BitVec 32} {v198 : BitVec 32} {v560 : FVec F S64x256 .f32} {v561 : Vec F S256x512 .f32} {Q : (Σ' (v563 : FVec F S64x512 .f32) (v586 : FVec F S64x256 .f32), BitVec 32) → sProp (MT nD τ sig Unit (Elt F) ℕ UU ℕ)}
    (h : ∀ u2 : BitVec 32, St A B K c R ⟨7, 7, true, 14, 2, 0, 0, 0, 0, 0, 0⟩ ⊢ Q ⟨k0_pay11 v560 v561, k0_pay12 v560 v561 (stagHalf A B c 0 1) (stagHalf A B c 0 2), u2⟩) :
    St A B K c R ⟨7, 7, true, 14, 0, 0, 0, 0, 0, 0, 0⟩ ⊢ wpk c (atArgs (k0_part18 (F := F)) c v177 v198 v560 v561) Q := by
  unfold atArgs
  rw [k0_part18_eq_skeleton]; unfold k0_part18_skel
  simp only [semSignalWord, semWaitWord, Prog.lift, Prog.bind_op, Prog.bind_ret, Prog.pure_eq_ret]
  refine st_wait_recv1 (0, 0) ?_
  refine st_load_stag (0, 0) ?_
  refine st_wait_recv1 (0, 1) ?_
  refine st_load_stag (0, 1) ?_
  exact st_ret (h _)

/-- Here the device takes shares that have arrived. -/
theorem run_part19 {v219 : BitVec 32} {v264 : BitVec 32} {v309 : BitVec 32} {v586 : FVec F S64x256 .f32} {c1_i32_444 : BitVec 32} {Q : (FVec F S64x256 .f32) → sProp (MT nD τ sig Unit (Elt F) ℕ UU ℕ)}
    (h : St A B K c R ⟨7, 7, true, 14, 4, 0, 0, 0, 0, 0, 0⟩ ⊢ Q (k0_pay13 v586 (stagHalf A B c 0 3) (stagHalf A B c 0 4))) :
    St A B K c R ⟨7, 7, true, 14, 2, 0, 0, 0, 0, 0, 0⟩ ⊢ wpk c (atArgs (k0_part19 (F := F)) c v219 v264 v309 v586 c1_i32_444) Q := by
  unfold atArgs
  rw [k0_part19_eq_skeleton]; unfold k0_part19_skel
  simp only [semSignalWord, semWaitWord, Prog.lift, Prog.bind_op, Prog.bind_ret, Prog.pure_eq_ret]
  refine st_wait_recv1 (0, 2) ?_
  refine st_load_stag (0, 2) ?_
  refine st_wait_recv1 (0, 3) ?_
  refine st_load_stag (0, 3) ?_
  exact st_ret (h)

/-- Here the device takes shares that have arrived. -/
theorem run_part20 {v354 : BitVec 32} {v399 : BitVec 32} {v608 : FVec F S64x256 .f32} {Q : (Σ' (v641 : FVec F S64x256 .f32), FVec F S64x256 .bf16) → sProp (MT nD τ sig Unit (Elt F) ℕ UU ℕ)}
    (h : St A B K c R ⟨7, 7, true, 14, 7, 0, 0, 0, 0, 0, 0⟩ ⊢ Q ⟨k0_pay14 v608 (stagHalf A B c 0 5) (stagHalf A B c 0 6) (stagHalf A B c 0 7), k0_pay15 v608 (stagHalf A B c 0 5) (stagHalf A B c 0 6) (stagHalf A B c 0 7)⟩) :
    St A B K c R ⟨7, 7, true, 14, 4, 0, 0, 0, 0, 0, 0⟩ ⊢ wpk c (atArgs (k0_part20 (F := F)) c v354 v399 v608) Q := by
  unfold atArgs
  rw [k0_part20_eq_skeleton]; unfold k0_part20_skel
  simp only [semSignalWord, semWaitWord, Prog.lift, Prog.bind_op, Prog.bind_ret, Prog.pure_eq_ret]
  refine st_wait_recv1 (0, 4) ?_
  refine st_load_stag (0, 4) ?_
  refine st_wait_recv1 (0, 5) ?_
  refine st_load_stag (0, 5) ?_
  refine st_wait_recv1 (0, 6) ?_
  refine st_load_stag (0, 6) ?_
  exact st_ret (h)

/-- Here the device stores a sum and sends sums. -/
theorem run_part21 {v2 : BitVec 32} {v642 : FVec F S64x256 .bf16} {Q : (Σ' (v658 : BitVec 32) (v671 : BitVec 32) (v672 : BitVec 32) (v673 : BitVec 1) (v674 : BitVec 1), BitVec 32) → sProp (MT nD τ sig Unit (Elt F) ℕ UU ℕ)}
    (hv : k0_pay16 v642 = gatBlk A B c 0)
    (h : ∀ u0 : BitVec 32, ∀ u1 : BitVec 32, ∀ u2 : BitVec 32, ∀ u3 : BitVec 1, ∀ u4 : BitVec 1, ∀ u5 : BitVec 32, St A B K c R ⟨7, 7, true, 14, 7, 1, 1, 0, 0, 0, 0⟩ ⊢ Q ⟨u0, u1, u2, u3, u4, u5⟩) :
    St A B K c R ⟨7, 7, true, 14, 7, 0, 0, 0, 0, 0, 0⟩ ⊢ wpk c (atArgs (k0_part21 (F := F)) c v2 v642) Q := by
  unfold atArgs
  rw [k0_part21_eq_skeleton]; unfold k0_part21_skel
  simp only [semSignalWord, semWaitWord, Prog.lift, Prog.bind_op, Prog.bind_ret, Prog.pure_eq_ret]
  refine st_load_gat_own (off := fun x => k0_off6 x) 0 fun _ => ?_
  refine st_store_gat (off := fun x => k0_off6 x) 0 ?_ hv
  refine st_send2 (dv := fun x => ⟨k0_dev22 x, k0_dev22_lt x⟩) (off := fun x => k0_off7 x) (0, 0) ?_
  exact st_ret (h _ _ _ _ _ _)

/-- Here the device sends sums. -/
theorem run_part22 {v2 : BitVec 32} {v671 : BitVec 32} {v672 : BitVec 32} {v673 : BitVec 1} {v674 : BitVec 1} {c0_i32_524 : BitVec 32} {Q : (Σ' (v679 : BitVec 32), BitVec 32) → sProp (MT nD τ sig Unit (Elt F) ℕ UU ℕ)}
    (h : ∀ u0 : BitVec 32, ∀ u1 : BitVec 32, St A B K c R ⟨7, 7, true, 14, 7, 1, 2, 0, 0, 0, 0⟩ ⊢ Q ⟨u0, u1⟩) :
    St A B K c R ⟨7, 7, true, 14, 7, 1, 1, 0, 0, 0, 0⟩ ⊢ wpk c (atArgs (k0_part22 (F := F)) c v2 v671 v672 v673 v674 c0_i32_524) Q := by
  unfold atArgs
  rw [k0_part22_eq_skeleton]; unfold k0_part22_skel
  simp only [semSignalWord, semWaitWord, Prog.lift, Prog.bind_op, Prog.bind_ret, Prog.pure_eq_ret]
  refine st_send2 (dv := fun x => ⟨k0_dev23 x, k0_dev23_lt x⟩) (off := fun x => k0_off7 x) (0, 1) ?_
  exact st_ret (h _ _)

/-- Here the device sends sums. -/
theorem run_part23 {v2 : BitVec 32} {Q : (Σ' (v721 : BitVec 32) (v734 : BitVec 32) (v735 : BitVec 32), BitVec 1) → sProp (MT nD τ sig Unit (Elt F) ℕ UU ℕ)}
    (h : ∀ u0 : BitVec 32, ∀ u1 : BitVec 32, ∀ u2 : BitVec 32, ∀ u3 : BitVec 1, St A B K c R ⟨7, 7, true, 14, 7, 1, 4, 0, 0, 0, 0⟩ ⊢ Q ⟨u0, u1, u2, u3⟩) :
    St A B K c R ⟨7, 7, true, 14, 7, 1, 2, 0, 0, 0, 0⟩ ⊢ wpk c (atArgs (k0_part23 (F := F)) c v2) Q := by
  unfold atArgs
  rw [k0_part23_eq_skeleton]; unfold k0_part23_skel
  simp only [semSignalWord, semWaitWord, Prog.lift, Prog.bind_op, Prog.bind_ret, Prog.pure_eq_ret]
  refine st_send2 (dv := fun x => ⟨k0_dev24 x, k0_dev24_lt x⟩) (off := fun x => k0_off7 x) (0, 2) ?_
  refine st_send2 (dv := fun x => ⟨k0_dev25 x, k0_dev25_lt x⟩) (off := fun x => k0_off7 x) (0, 3) ?_
  exact st_ret (h _ _ _ _)

/-- Here the device sends sums. -/
theorem run_part24 {v2 : BitVec 32} {v734 : BitVec 32} {v735 : BitVec 32} {v740 : BitVec 1} {Q : (Σ' (v742 : BitVec 32), BitVec 32) → sProp (MT nD τ sig Unit (Elt F) ℕ UU ℕ)}
    (h : ∀ u0 : BitVec 32, ∀ u1 : BitVec 32, St A B K c R ⟨7, 7, true, 14, 7, 1, 5, 0, 0, 0, 0⟩ ⊢ Q ⟨u0, u1⟩) :
    St A B K c R ⟨7, 7, true, 14, 7, 1, 4, 0, 0, 0, 0⟩ ⊢ wpk c (atArgs (k0_part24 (F := F)) c v2 v734 v735 v740) Q := by
  unfold atArgs
  rw [k0_part24_eq_skeleton]; unfold k0_part24_skel
  simp only [semSignalWord, semWaitWord, Prog.lift, Prog.bind_op, Prog.bind_ret, Prog.pure_eq_ret]
  refine st_send2 (dv := fun x => ⟨k0_dev26 x, k0_dev26_lt x⟩) (off := fun x => k0_off7 x) (0, 4) ?_
  exact st_ret (h _ _)

/-- Here the device sends sums and writes the result. -/
theorem run_part25 {v2 : BitVec 32} {v420 : BitVec 32} {v563 : FVec F S64x512 .f32} {v641 : FVec F S64x256 .f32} {Q : (Σ' (v784 : BitVec 32), FVec F S64x256 .f32) → sProp (MT nD τ sig Unit (Elt F) ℕ UU ℕ)}
    (hw : v641 = acc A B c 0)
    (h : ∀ u0 : BitVec 32, St A B K c R ⟨7, 7, true, 14, 7, 1, 7, 1, 0, 0, 0⟩ ⊢ Q ⟨u0, k0_pay17 v563⟩) :
    St A B K c R ⟨7, 7, true, 14, 7, 1, 5, 0, 0, 0, 0⟩ ⊢ wpk c (atArgs (k0_part25 (F := F)) c v2 v420 v563 v641) Q := by
  unfold atArgs
  rw [k0_part25_eq_skeleton]; unfold k0_part25_skel
  simp only [semSignalWord, semWaitWord, Prog.lift, Prog.bind_op, Prog.bind_ret, Prog.pure_eq_ret]
  refine st_send2 (dv := fun x => ⟨k0_dev27 x, k0_dev27_lt x⟩) (off := fun x => k0_off7 x) (0, 5) ?_
  refine st_send2 (dv := fun x => ⟨k0_dev28 x, k0_dev28_lt x⟩) (off := fun x => k0_off7 x) (0, 6) ?_
  refine st_load_out fun _ => ?_
  refine st_store_out (off := fun x => k0_off6 x) (fun x => x) 0 ?_ (hw.trans (outBlk_own A B c 0).symm)
  exact st_ret (h _)

end Cert.KProof
-- ==== Proof.Body3.lean ====
/-
# The body, the second sums and their copies

One lemma per part of the printed body: its steps in order.
-/
module

public import proofs.«01_k».proof.Proof.Parts

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
/-- Here the device takes shares that have arrived. -/
theorem run_part26 {v441 : BitVec 32} {v462 : BitVec 32} {v798 : FVec F S64x256 .f32} {Q : (Σ' (v820 : FVec F S64x256 .f32), Vec F S1x64x256 .bf16) → sProp (MT nD τ sig Unit (Elt F) ℕ UU ℕ)}
    (h : St A B K c R ⟨7, 7, true, 14, 10, 1, 7, 1, 0, 0, 0⟩ ⊢ Q ⟨k0_pay18 v798 (stagHalf A B c 1 1) (stagHalf A B c 1 2), stagHalf A B c 1 3⟩) :
    St A B K c R ⟨7, 7, true, 14, 7, 1, 7, 1, 0, 0, 0⟩ ⊢ wpk c (atArgs (k0_part26 (F := F)) c v441 v462 v798) Q := by
  unfold atArgs
  rw [k0_part26_eq_skeleton]; unfold k0_part26_skel
  simp only [semSignalWord, semWaitWord, Prog.lift, Prog.bind_op, Prog.bind_ret, Prog.pure_eq_ret]
  refine st_wait_recv1 (1, 0) ?_
  refine st_load_stag (1, 0) ?_
  refine st_wait_recv1 (1, 1) ?_
  refine st_load_stag (1, 1) ?_
  refine st_wait_recv1 (1, 2) ?_
  refine st_load_stag (1, 2) ?_
  exact st_ret (h)

/-- Here the device takes shares that have arrived. -/
theorem run_part27 {v483 : BitVec 32} {v504 : BitVec 32} {v525 : BitVec 32} {v820 : FVec F S64x256 .f32} {v828 : Vec F S1x64x256 .bf16} {Q : (Σ' (v853 : FVec F S64x256 .f32), BitVec 32) → sProp (MT nD τ sig Unit (Elt F) ℕ UU ℕ)}
    (h : ∀ u1 : BitVec 32, St A B K c R ⟨7, 7, true, 14, 12, 1, 7, 1, 0, 0, 0⟩ ⊢ Q ⟨k0_pay19 v820 v828 (stagHalf A B c 1 4) (stagHalf A B c 1 5), u1⟩) :
    St A B K c R ⟨7, 7, true, 14, 10, 1, 7, 1, 0, 0, 0⟩ ⊢ wpk c (atArgs (k0_part27 (F := F)) c v483 v504 v525 v820 v828) Q := by
  unfold atArgs
  rw [k0_part27_eq_skeleton]; unfold k0_part27_skel
  simp only [semSignalWord, semWaitWord, Prog.lift, Prog.bind_op, Prog.bind_ret, Prog.pure_eq_ret]
  refine st_wait_recv1 (1, 3) ?_
  refine st_load_stag (1, 3) ?_
  refine st_wait_recv1 (1, 4) ?_
  refine st_load_stag (1, 4) ?_
  exact st_ret (h _)

/-- Here the device takes shares that have arrived and stores a sum. -/
theorem run_part28 {v2 : BitVec 32} {v546 : BitVec 32} {v853 : FVec F S64x256 .f32} {v854 : BitVec 32} {Q : (Σ' (v875 : FVec F S64x256 .f32) (v884 : BitVec 32), BitVec 32) → sProp (MT nD τ sig Unit (Elt F) ℕ UU ℕ)}
    (hv : k0_pay21 v853 (stagHalf A B c 1 6) (stagHalf A B c 1 7) = gatBlk A B c 1)
    (h : ∀ u1 : BitVec 32, ∀ u2 : BitVec 32, St A B K c R ⟨7, 7, true, 14, 14, 2, 7, 1, 0, 0, 0⟩ ⊢ Q ⟨k0_pay20 v853 (stagHalf A B c 1 6) (stagHalf A B c 1 7), u1, u2⟩) :
    St A B K c R ⟨7, 7, true, 14, 12, 1, 7, 1, 0, 0, 0⟩ ⊢ wpk c (atArgs (k0_part28 (F := F)) c v2 v546 v853 v854) Q := by
  unfold atArgs
  rw [k0_part28_eq_skeleton]; unfold k0_part28_skel
  simp only [semSignalWord, semWaitWord, Prog.lift, Prog.bind_op, Prog.bind_ret, Prog.pure_eq_ret]
  refine st_wait_recv1 (1, 5) ?_
  refine st_load_stag (1, 5) ?_
  refine st_wait_recv1 (1, 6) ?_
  refine st_load_stag (1, 6) ?_
  refine st_load_gat_own (off := fun x => k0_off8 x) 1 fun _ => ?_
  refine st_store_gat (off := fun x => k0_off8 x) 1 ?_ hv
  exact st_ret (h _ _)

/-- Here the device sends sums. -/
theorem run_part29 {v2 : BitVec 32} {v884 : BitVec 32} {v885 : BitVec 32} {Q : (Σ' (v892 : BitVec 32) (v913 : BitVec 32) (v916 : BitVec 32), BitVec 32) → sProp (MT nD τ sig Unit (Elt F) ℕ UU ℕ)}
    (h : ∀ u0 : BitVec 32, ∀ u1 : BitVec 32, ∀ u2 : BitVec 32, ∀ u3 : BitVec 32, St A B K c R ⟨7, 7, true, 14, 14, 2, 8, 1, 0, 0, 0⟩ ⊢ Q ⟨u0, u1, u2, u3⟩) :
    St A B K c R ⟨7, 7, true, 14, 14, 2, 7, 1, 0, 0, 0⟩ ⊢ wpk c (atArgs (k0_part29 (F := F)) c v2 v884 v885) Q := by
  unfold atArgs
  rw [k0_part29_eq_skeleton]; unfold k0_part29_skel
  simp only [semSignalWord, semWaitWord, Prog.lift, Prog.bind_op, Prog.bind_ret, Prog.pure_eq_ret]
  refine st_send2 (dv := fun x => ⟨k0_dev29 x, k0_dev29_lt x⟩) (off := fun x => k0_off9 x) (1, 0) ?_
  exact st_ret (h _ _ _ _)

/-- Here the device sends sums. -/
theorem run_part30 {v2 : BitVec 32} {v916 : BitVec 32} {c0_i32_745 : BitVec 32} {Q : (Σ' (v934 : BitVec 32) (v947 : BitVec 32) (v948 : BitVec 32) (v949 : BitVec 1), BitVec 32) → sProp (MT nD τ sig Unit (Elt F) ℕ UU ℕ)}
    (h : ∀ u0 : BitVec 32, ∀ u1 : BitVec 32, ∀ u2 : BitVec 32, ∀ u3 : BitVec 1, ∀ u4 : BitVec 32, St A B K c R ⟨7, 7, true, 14, 14, 2, 10, 1, 0, 0, 0⟩ ⊢ Q ⟨u0, u1, u2, u3, u4⟩) :
    St A B K c R ⟨7, 7, true, 14, 14, 2, 8, 1, 0, 0, 0⟩ ⊢ wpk c (atArgs (k0_part30 (F := F)) c v2 v916 c0_i32_745) Q := by
  unfold atArgs
  rw [k0_part30_eq_skeleton]; unfold k0_part30_skel
  simp only [semSignalWord, semWaitWord, Prog.lift, Prog.bind_op, Prog.bind_ret, Prog.pure_eq_ret]
  refine st_send2 (dv := fun x => ⟨k0_dev30 x, k0_dev30_lt x⟩) (off := fun x => k0_off9 x) (1, 1) ?_
  refine st_send2 (dv := fun x => ⟨k0_dev31 x, k0_dev31_lt x⟩) (off := fun x => k0_off9 x) (1, 2) ?_
  exact st_ret (h _ _ _ _ _)

/-- Here the device sends sums. -/
theorem run_part31 {v2 : BitVec 32} {v947 : BitVec 32} {v948 : BitVec 32} {v949 : BitVec 1} {c0_i32_770 : BitVec 32} {Q : (Σ' (v955 : BitVec 32), BitVec 32) → sProp (MT nD τ sig Unit (Elt F) ℕ UU ℕ)}
    (h : ∀ u0 : BitVec 32, ∀ u1 : BitVec 32, St A B K c R ⟨7, 7, true, 14, 14, 2, 11, 1, 0, 0, 0⟩ ⊢ Q ⟨u0, u1⟩) :
    St A B K c R ⟨7, 7, true, 14, 14, 2, 10, 1, 0, 0, 0⟩ ⊢ wpk c (atArgs (k0_part31 (F := F)) c v2 v947 v948 v949 c0_i32_770) Q := by
  unfold atArgs
  rw [k0_part31_eq_skeleton]; unfold k0_part31_skel
  simp only [semSignalWord, semWaitWord, Prog.lift, Prog.bind_op, Prog.bind_ret, Prog.pure_eq_ret]
  refine st_send2 (dv := fun x => ⟨k0_dev32 x, k0_dev32_lt x⟩) (off := fun x => k0_off9 x) (1, 3) ?_
  exact st_ret (h _ _)

/-- Here the device sends sums. -/
theorem run_part32 {v2 : BitVec 32} {Q : (Σ' (v997 : BitVec 32) (v1010 : BitVec 32) (v1011 : BitVec 32) (v1012 : BitVec 1) (v1013 : BitVec 1), BitVec 1) → sProp (MT nD τ sig Unit (Elt F) ℕ UU ℕ)}
    (h : ∀ u0 : BitVec 32, ∀ u1 : BitVec 32, ∀ u2 : BitVec 32, ∀ u3 : BitVec 1, ∀ u4 : BitVec 1, ∀ u5 : BitVec 1, St A B K c R ⟨7, 7, true, 14, 14, 2, 13, 1, 0, 0, 0⟩ ⊢ Q ⟨u0, u1, u2, u3, u4, u5⟩) :
    St A B K c R ⟨7, 7, true, 14, 14, 2, 11, 1, 0, 0, 0⟩ ⊢ wpk c (atArgs (k0_part32 (F := F)) c v2) Q := by
  unfold atArgs
  rw [k0_part32_eq_skeleton]; unfold k0_part32_skel
  simp only [semSignalWord, semWaitWord, Prog.lift, Prog.bind_op, Prog.bind_ret, Prog.pure_eq_ret]
  refine st_send2 (dv := fun x => ⟨k0_dev33 x, k0_dev33_lt x⟩) (off := fun x => k0_off9 x) (1, 4) ?_
  refine st_send2 (dv := fun x => ⟨k0_dev34 x, k0_dev34_lt x⟩) (off := fun x => k0_off9 x) (1, 5) ?_
  exact st_ret (h _ _ _ _ _ _)

/-- Here the device sends sums, writes the result and waits for its shares' copies. -/
theorem run_part33 {v2 : BitVec 32} {v875 : FVec F S64x256 .f32} {v1010 : BitVec 32} {v1011 : BitVec 32} {v1012 : BitVec 1} {v1013 : BitVec 1} {v1014 : BitVec 1} {Q : (BitVec 32) → sProp (MT nD τ sig Unit (Elt F) ℕ UU ℕ)}
    (hw : v875 = acc A B c 1)
    (h : ∀ u0 : BitVec 32, St A B K c R ⟨7, 7, true, 14, 14, 2, 14, 2, 1, 0, 0⟩ ⊢ Q (u0)) :
    St A B K c R ⟨7, 7, true, 14, 14, 2, 13, 1, 0, 0, 0⟩ ⊢ wpk c (atArgs (k0_part33 (F := F)) c v2 v875 v1010 v1011 v1012 v1013 v1014) Q := by
  unfold atArgs
  rw [k0_part33_eq_skeleton]; unfold k0_part33_skel
  simp only [semSignalWord, semWaitWord, Prog.lift, Prog.bind_op, Prog.bind_ret, Prog.pure_eq_ret]
  refine st_send2 (dv := fun x => ⟨k0_dev35 x, k0_dev35_lt x⟩) (off := fun x => k0_off9 x) (1, 6) ?_
  refine st_load_out fun _ => ?_
  refine st_store_out (off := fun x => k0_off8 x) (fun x => x) 1 ?_ (hw.trans (outBlk_own A B c 1).symm)
  refine st_wait_send1 (0, 0) ?_
  exact st_ret (h _)

/-- Here the device waits for its shares' copies. -/
theorem run_part34 {Q : (PUnit) → sProp (MT nD τ sig Unit (Elt F) ℕ UU ℕ)}
    (h : St A B K c R ⟨7, 7, true, 14, 14, 2, 14, 2, 5, 0, 0⟩ ⊢ Q ⟨⟩) :
    St A B K c R ⟨7, 7, true, 14, 14, 2, 14, 2, 1, 0, 0⟩ ⊢ wpk c (atArgs (k0_part34 (F := F)) c) Q := by
  unfold atArgs
  rw [k0_part34_eq_skeleton]; unfold k0_part34_skel
  simp only [semSignalWord, semWaitWord, Prog.lift, Prog.bind_op, Prog.bind_ret, Prog.pure_eq_ret]
  refine st_wait_send1 (0, 1) ?_
  refine st_wait_send1 (0, 2) ?_
  refine st_wait_send1 (0, 3) ?_
  refine st_wait_send1 (0, 4) ?_
  exact st_ret (h)

/-- Here the device waits for its shares' copies. -/
theorem run_part35 {Q : (PUnit) → sProp (MT nD τ sig Unit (Elt F) ℕ UU ℕ)}
    (h : St A B K c R ⟨7, 7, true, 14, 14, 2, 14, 2, 9, 0, 0⟩ ⊢ Q ⟨⟩) :
    St A B K c R ⟨7, 7, true, 14, 14, 2, 14, 2, 5, 0, 0⟩ ⊢ wpk c (atArgs (k0_part35 (F := F)) c) Q := by
  unfold atArgs
  rw [k0_part35_eq_skeleton]; unfold k0_part35_skel
  simp only [semSignalWord, semWaitWord, Prog.lift, Prog.bind_op, Prog.bind_ret, Prog.pure_eq_ret]
  refine st_wait_send1 (0, 5) ?_
  refine st_wait_send1 (0, 6) ?_
  refine st_wait_send1 (1, 0) ?_
  refine st_wait_send1 (1, 1) ?_
  exact st_ret (h)

/-- Here the device waits for its shares' copies. -/
theorem run_part36 {Q : (PUnit) → sProp (MT nD τ sig Unit (Elt F) ℕ UU ℕ)}
    (h : St A B K c R ⟨7, 7, true, 14, 14, 2, 14, 2, 13, 0, 0⟩ ⊢ Q ⟨⟩) :
    St A B K c R ⟨7, 7, true, 14, 14, 2, 14, 2, 9, 0, 0⟩ ⊢ wpk c (atArgs (k0_part36 (F := F)) c) Q := by
  unfold atArgs
  rw [k0_part36_eq_skeleton]; unfold k0_part36_skel
  simp only [semSignalWord, semWaitWord, Prog.lift, Prog.bind_op, Prog.bind_ret, Prog.pure_eq_ret]
  refine st_wait_send1 (1, 2) ?_
  refine st_wait_send1 (1, 3) ?_
  refine st_wait_send1 (1, 4) ?_
  refine st_wait_send1 (1, 5) ?_
  exact st_ret (h)

/-- Here the device waits for its shares' copies, waits for sums and writes the result. -/
theorem run_part37 {v2 : BitVec 32} {v658 : BitVec 32} {v679 : BitVec 32} {Q : (PUnit) → sProp (MT nD τ sig Unit (Elt F) ℕ UU ℕ)}
    (h : St A B K c R ⟨7, 7, true, 14, 14, 2, 14, 3, 14, 1, 0⟩ ⊢ Q ⟨⟩) :
    St A B K c R ⟨7, 7, true, 14, 14, 2, 14, 2, 13, 0, 0⟩ ⊢ wpk c (atArgs (k0_part37 (F := F)) c v2 v658 v679) Q := by
  unfold atArgs
  rw [k0_part37_eq_skeleton]; unfold k0_part37_skel
  simp only [semSignalWord, semWaitWord, Prog.lift, Prog.bind_op, Prog.bind_ret, Prog.pure_eq_ret]
  refine st_wait_send1 (1, 6) ?_
  refine st_wait_recv2 (0, 0) ?_
  refine st_load_gat (off := fun x => k0_off10 x 1#32) (0, 0) ?_
  refine st_load_out fun _ => ?_
  refine st_store_out (off := fun x => k0_off10 x 1#32) (fun x => bak x (Fin.succ 0)) 0 ?_ (outBlk_bak A B c 0 0).symm
  exact st_ret (h)

end Cert.KProof
-- ==== Proof.Body4.lean ====
/-
# The body, the copies waited for, the result written

One lemma per part of the printed body: its steps in order.
-/
module

public import proofs.«01_k».proof.Proof.Parts

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}
/-- Here the device waits for sums and writes the result. -/
theorem run_part38 {v2 : BitVec 32} {v700 : BitVec 32} {Q : (Σ' (v1161 : BitVec 32), BitVec 32) → sProp (MT nD τ sig Unit (Elt F) ℕ UU ℕ)}
    (h : ∀ u0 : BitVec 32, ∀ u1 : BitVec 32, St A B K c R ⟨7, 7, true, 14, 14, 2, 14, 4, 14, 3, 0⟩ ⊢ Q ⟨u0, u1⟩) :
    St A B K c R ⟨7, 7, true, 14, 14, 2, 14, 3, 14, 1, 0⟩ ⊢ wpk c (atArgs (k0_part38 (F := F)) c v2 v700) Q := by
  unfold atArgs
  rw [k0_part38_eq_skeleton]; unfold k0_part38_skel
  simp only [semSignalWord, semWaitWord, Prog.lift, Prog.bind_op, Prog.bind_ret, Prog.pure_eq_ret]
  refine st_wait_recv2 (0, 1) ?_
  refine st_load_gat (off := fun x => k0_off10 x 2#32) (0, 1) ?_
  refine st_load_out fun _ => ?_
  refine st_store_out (off := fun x => k0_off10 x 2#32) (fun x => bak x (Fin.succ 1)) 0 ?_ (outBlk_bak A B c 0 1).symm
  refine st_wait_recv2 (0, 2) ?_
  exact st_ret (h _ _)

/-- Here the device writes the result and waits for sums. -/
theorem run_part39 {v2 : BitVec 32} {v721 : BitVec 32} {v1161 : BitVec 32} {v1162 : BitVec 32} {Q : (BitVec 32) → sProp (MT nD τ sig Unit (Elt F) ℕ UU ℕ)}
    (h : ∀ u0 : BitVec 32, St A B K c R ⟨7, 7, true, 14, 14, 2, 14, 5, 14, 4, 0⟩ ⊢ Q (u0)) :
    St A B K c R ⟨7, 7, true, 14, 14, 2, 14, 4, 14, 3, 0⟩ ⊢ wpk c (atArgs (k0_part39 (F := F)) c v2 v721 v1161 v1162) Q := by
  unfold atArgs
  rw [k0_part39_eq_skeleton]; unfold k0_part39_skel
  simp only [semSignalWord, semWaitWord, Prog.lift, Prog.bind_op, Prog.bind_ret, Prog.pure_eq_ret]
  refine st_load_gat (off := fun x => k0_off10 x 3#32) (0, 2) ?_
  refine st_load_out fun _ => ?_
  refine st_store_out (off := fun x => k0_off10 x 3#32) (fun x => bak x (Fin.succ 2)) 0 ?_ (outBlk_bak A B c 0 2).symm
  refine st_wait_recv2 (0, 3) ?_
  exact st_ret (h _)

/-- Here the device writes the result and waits for sums. -/
theorem run_part40 {v2 : BitVec 32} {v742 : BitVec 32} {v1194 : BitVec 32} {Q : (PUnit) → sProp (MT nD τ sig Unit (Elt F) ℕ UU ℕ)}
    (h : St A B K c R ⟨7, 7, true, 14, 14, 2, 14, 7, 14, 5, 0⟩ ⊢ Q ⟨⟩) :
    St A B K c R ⟨7, 7, true, 14, 14, 2, 14, 5, 14, 4, 0⟩ ⊢ wpk c (atArgs (k0_part40 (F := F)) c v2 v742 v1194) Q := by
  unfold atArgs
  rw [k0_part40_eq_skeleton]; unfold k0_part40_skel
  simp only [semSignalWord, semWaitWord, Prog.lift, Prog.bind_op, Prog.bind_ret, Prog.pure_eq_ret]
  refine st_load_gat (off := fun x => k0_off10 x 4#32) (0, 3) ?_
  refine st_load_out fun _ => ?_
  refine st_store_out (off := fun x => k0_off10 x 4#32) (fun x => bak x (Fin.succ 3)) 0 ?_ (outBlk_bak A B c 0 3).symm
  refine st_wait_recv2 (0, 4) ?_
  refine st_load_gat (off := fun x => k0_off10 x 5#32) (0, 4) ?_
  refine st_load_out fun _ => ?_
  refine st_store_out (off := fun x => k0_off10 x 5#32) (fun x => bak x (Fin.succ 4)) 0 ?_ (outBlk_bak A B c 0 4).symm
  exact st_ret (h)

/-- Here the device waits for sums and writes the result. -/
theorem run_part41 {v2 : BitVec 32} {v763 : BitVec 32} {v784 : BitVec 32} {Q : (BitVec 32) → sProp (MT nD τ sig Unit (Elt F) ℕ UU ℕ)}
    (h : ∀ u0 : BitVec 32, St A B K c R ⟨7, 7, true, 14, 14, 2, 14, 8, 14, 7, 0⟩ ⊢ Q (u0)) :
    St A B K c R ⟨7, 7, true, 14, 14, 2, 14, 7, 14, 5, 0⟩ ⊢ wpk c (atArgs (k0_part41 (F := F)) c v2 v763 v784) Q := by
  unfold atArgs
  rw [k0_part41_eq_skeleton]; unfold k0_part41_skel
  simp only [semSignalWord, semWaitWord, Prog.lift, Prog.bind_op, Prog.bind_ret, Prog.pure_eq_ret]
  refine st_wait_recv2 (0, 5) ?_
  refine st_load_gat (off := fun x => k0_off10 x 6#32) (0, 5) ?_
  refine st_load_out fun _ => ?_
  refine st_store_out (off := fun x => k0_off10 x 6#32) (fun x => bak x (Fin.succ 5)) 0 ?_ (outBlk_bak A B c 0 5).symm
  refine st_wait_recv2 (0, 6) ?_
  exact st_ret (h _)

/-- Here the device writes the result and waits for sums. -/
theorem run_part42 {v2 : BitVec 32} {v892 : BitVec 32} {v1258 : BitVec 32} {Q : (Σ' (v1286 : BitVec 32) (v1287 : BitVec 32) (v1288 : BitVec 1) (v1289 : BitVec 1), BitVec 32) → sProp (MT nD τ sig Unit (Elt F) ℕ UU ℕ)}
    (h : ∀ u0 : BitVec 32, ∀ u1 : BitVec 32, ∀ u2 : BitVec 1, ∀ u3 : BitVec 1, ∀ u4 : BitVec 32, St A B K c R ⟨7, 7, true, 14, 14, 2, 14, 9, 14, 8, 0⟩ ⊢ Q ⟨u0, u1, u2, u3, u4⟩) :
    St A B K c R ⟨7, 7, true, 14, 14, 2, 14, 8, 14, 7, 0⟩ ⊢ wpk c (atArgs (k0_part42 (F := F)) c v2 v892 v1258) Q := by
  unfold atArgs
  rw [k0_part42_eq_skeleton]; unfold k0_part42_skel
  simp only [semSignalWord, semWaitWord, Prog.lift, Prog.bind_op, Prog.bind_ret, Prog.pure_eq_ret]
  refine st_load_gat (off := fun x => k0_off10 x 7#32) (0, 6) ?_
  refine st_load_out fun _ => ?_
  refine st_store_out (off := fun x => k0_off10 x 7#32) (fun x => bak x (Fin.succ 6)) 0 ?_ (outBlk_bak A B c 0 6).symm
  refine st_wait_recv2 (1, 0) ?_
  exact st_ret (h _ _ _ _ _)

/-- Here the device writes the result and waits for sums. -/
theorem run_part43 {v2 : BitVec 32} {v913 : BitVec 32} {v1286 : BitVec 32} {v1287 : BitVec 32} {v1288 : BitVec 1} {v1289 : BitVec 1} {c0_i32_1116 : BitVec 32} {Q : (Σ' (v1323 : FVec F S64x256 .f32), BitVec 32) → sProp (MT nD τ sig Unit (Elt F) ℕ UU ℕ)}
    (h : ∀ u1 : BitVec 32, St A B K c R ⟨7, 7, true, 14, 14, 2, 14, 10, 14, 9, 0⟩ ⊢ Q ⟨k0_pay30 (gatBlk A B (bak c (Fin.succ 1)) 1), u1⟩) :
    St A B K c R ⟨7, 7, true, 14, 14, 2, 14, 9, 14, 8, 0⟩ ⊢ wpk c (atArgs (k0_part43 (F := F)) c v2 v913 v1286 v1287 v1288 v1289 c0_i32_1116) Q := by
  unfold atArgs
  rw [k0_part43_eq_skeleton]; unfold k0_part43_skel
  simp only [semSignalWord, semWaitWord, Prog.lift, Prog.bind_op, Prog.bind_ret, Prog.pure_eq_ret]
  refine st_load_gat (off := fun x => k0_off11 x 1#32) (1, 0) ?_
  refine st_load_out fun _ => ?_
  refine st_store_out (off := fun x => k0_off11 x 1#32) (fun x => bak x (Fin.succ 0)) 1 ?_ (outBlk_bak A B c 1 0).symm
  refine st_wait_recv2 (1, 1) ?_
  refine st_load_gat (off := fun x => k0_off11 x 2#32) (1, 1) ?_
  exact st_ret (h _)

/-- Here the device writes the result and waits for sums. -/
theorem run_part44 {v2 : BitVec 32} {v934 : BitVec 32} {v955 : BitVec 32} {v1323 : FVec F S64x256 .f32} {v1324 : BitVec 32} {Q : (PUnit) → sProp (MT nD τ sig Unit (Elt F) ℕ UU ℕ)}
    (hw : v1323 = outBlk A B c (bak c (Fin.succ 1)) 1)
    (h : St A B K c R ⟨7, 7, true, 14, 14, 2, 14, 12, 14, 10, 0⟩ ⊢ Q ⟨⟩) :
    St A B K c R ⟨7, 7, true, 14, 14, 2, 14, 10, 14, 9, 0⟩ ⊢ wpk c (atArgs (k0_part44 (F := F)) c v2 v934 v955 v1323 v1324) Q := by
  unfold atArgs
  rw [k0_part44_eq_skeleton]; unfold k0_part44_skel
  simp only [semSignalWord, semWaitWord, Prog.lift, Prog.bind_op, Prog.bind_ret, Prog.pure_eq_ret]
  refine st_load_out fun _ => ?_
  refine st_store_out (off := fun x => k0_off11 x 2#32) (fun x => bak x (Fin.succ 1)) 1 ?_ hw
  refine st_wait_recv2 (1, 2) ?_
  refine st_load_gat (off := fun x => k0_off11 x 3#32) (1, 2) ?_
  refine st_load_out fun _ => ?_
  refine st_store_out (off := fun x => k0_off11 x 3#32) (fun x => bak x (Fin.succ 2)) 1 ?_ (outBlk_bak A B c 1 2).symm
  exact st_ret (h)

/-- Here the device waits for sums and writes the result. -/
theorem run_part45 {v2 : BitVec 32} {v976 : BitVec 32} {Q : (Σ' (v1384 : BitVec 32) (c8_i32_1191 : BitVec 32), BitVec 1) → sProp (MT nD τ sig Unit (Elt F) ℕ UU ℕ)}
    (h : ∀ u0 : BitVec 32, ∀ u1 : BitVec 32, ∀ u2 : BitVec 1, St A B K c R ⟨7, 7, true, 14, 14, 2, 14, 13, 14, 12, 0⟩ ⊢ Q ⟨u0, u1, u2⟩) :
    St A B K c R ⟨7, 7, true, 14, 14, 2, 14, 12, 14, 10, 0⟩ ⊢ wpk c (atArgs (k0_part45 (F := F)) c v2 v976) Q := by
  unfold atArgs
  rw [k0_part45_eq_skeleton]; unfold k0_part45_skel
  simp only [semSignalWord, semWaitWord, Prog.lift, Prog.bind_op, Prog.bind_ret, Prog.pure_eq_ret]
  refine st_wait_recv2 (1, 3) ?_
  refine st_load_gat (off := fun x => k0_off11 x 4#32) (1, 3) ?_
  refine st_load_out fun _ => ?_
  refine st_store_out (off := fun x => k0_off11 x 4#32) (fun x => bak x (Fin.succ 3)) 1 ?_ (outBlk_bak A B c 1 3).symm
  refine st_wait_recv2 (1, 4) ?_
  exact st_ret (h _ _ _)

/-- Here the device writes the result and waits for sums. -/
theorem run_part46 {v2 : BitVec 32} {v997 : BitVec 32} {v1384 : BitVec 32} {c8_i32_1191 : BitVec 32} {v1385 : BitVec 1} {Q : (BitVec 32) → sProp (MT nD τ sig Unit (Elt F) ℕ UU ℕ)}
    (h : ∀ u0 : BitVec 32, St A B K c R ⟨7, 7, true, 14, 14, 2, 14, 14, 14, 13, 0⟩ ⊢ Q (u0)) :
    St A B K c R ⟨7, 7, true, 14, 14, 2, 14, 13, 14, 12, 0⟩ ⊢ wpk c (atArgs (k0_part46 (F := F)) c v2 v997 v1384 c8_i32_1191 v1385) Q := by
  unfold atArgs
  rw [k0_part46_eq_skeleton]; unfold k0_part46_skel
  simp only [semSignalWord, semWaitWord, Prog.lift, Prog.bind_op, Prog.bind_ret, Prog.pure_eq_ret]
  refine st_load_gat (off := fun x => k0_off11 x 5#32) (1, 4) ?_
  refine st_load_out fun _ => ?_
  refine st_store_out (off := fun x => k0_off11 x 5#32) (fun x => bak x (Fin.succ 4)) 1 ?_ (outBlk_bak A B c 1 4).symm
  refine st_wait_recv2 (1, 5) ?_
  exact st_ret (h _)

/-- Here the device writes the result and waits for sums. -/
theorem run_part47 {v2 : BitVec 32} {v1018 : BitVec 32} {v1419 : BitVec 32} {Q : (PUnit) → sProp (MT nD τ sig Unit (Elt F) ℕ UU ℕ)}
    (h : St A B K c R ⟨7, 7, true, 14, 14, 2, 14, 16, 14, 14, 0⟩ ⊢ Q ⟨⟩) :
    St A B K c R ⟨7, 7, true, 14, 14, 2, 14, 14, 14, 13, 0⟩ ⊢ wpk c (atArgs (k0_part47 (F := F)) c v2 v1018 v1419) Q := by
  unfold atArgs
  rw [k0_part47_eq_skeleton]; unfold k0_part47_skel
  simp only [semSignalWord, semWaitWord, Prog.lift, Prog.bind_op, Prog.bind_ret, Prog.pure_eq_ret]
  refine st_load_gat (off := fun x => k0_off11 x 6#32) (1, 5) ?_
  refine st_load_out fun _ => ?_
  refine st_store_out (off := fun x => k0_off11 x 6#32) (fun x => bak x (Fin.succ 5)) 1 ?_ (outBlk_bak A B c 1 5).symm
  refine st_wait_recv2 (1, 6) ?_
  refine st_load_gat (off := fun x => k0_off11 x 7#32) (1, 6) ?_
  refine st_load_out fun _ => ?_
  refine st_store_out (off := fun x => k0_off11 x 7#32) (fun x => bak x (Fin.succ 6)) 1 ?_ (outBlk_bak A B c 1 6).symm
  exact st_ret (h)

/-- Here the device waits for its sums' copies. -/
theorem run_part48 {Q : (PUnit) → sProp (MT nD τ sig Unit (Elt F) ℕ UU ℕ)}
    (h : St A B K c R ⟨7, 7, true, 14, 14, 2, 14, 16, 14, 14, 5⟩ ⊢ Q ⟨⟩) :
    St A B K c R ⟨7, 7, true, 14, 14, 2, 14, 16, 14, 14, 0⟩ ⊢ wpk c (atArgs (k0_part48 (F := F)) c) Q := by
  unfold atArgs
  rw [k0_part48_eq_skeleton]; unfold k0_part48_skel
  simp only [semSignalWord, semWaitWord, Prog.lift, Prog.bind_op, Prog.bind_ret, Prog.pure_eq_ret]
  refine st_wait_send2 (0, 0) ?_
  refine st_wait_send2 (0, 1) ?_
  refine st_wait_send2 (0, 2) ?_
  refine st_wait_send2 (0, 3) ?_
  refine st_wait_send2 (0, 4) ?_
  exact st_ret (h)

/-- Here the device waits for its sums' copies. -/
theorem run_part49 {Q : (PUnit) → sProp (MT nD τ sig Unit (Elt F) ℕ UU ℕ)}
    (h : St A B K c R ⟨7, 7, true, 14, 14, 2, 14, 16, 14, 14, 10⟩ ⊢ Q ⟨⟩) :
    St A B K c R ⟨7, 7, true, 14, 14, 2, 14, 16, 14, 14, 5⟩ ⊢ wpk c (atArgs (k0_part49 (F := F)) c) Q := by
  unfold atArgs
  rw [k0_part49_eq_skeleton]; unfold k0_part49_skel
  simp only [semSignalWord, semWaitWord, Prog.lift, Prog.bind_op, Prog.bind_ret, Prog.pure_eq_ret]
  refine st_wait_send2 (0, 5) ?_
  refine st_wait_send2 (0, 6) ?_
  refine st_wait_send2 (1, 0) ?_
  refine st_wait_send2 (1, 1) ?_
  refine st_wait_send2 (1, 2) ?_
  exact st_ret (h)

end Cert.KProof
-- ==== Proof.Body.lean ====
/-
# The whole body

The parts in their order, from the state a device starts in to the state it ends in.
-/
module

public import proofs.«01_k».proof.Proof.Body1
public import proofs.«01_k».proof.Proof.Body2
public import proofs.«01_k».proof.Proof.Body3
public import proofs.«01_k».proof.Proof.Body4

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S512x256.Idx → Elt F .f32} {B : Dev nD → S256x512.Idx → Elt F .f32}
variable {K : Dev nD × CI → ℕ} {c : Dev nD} {R : sProp (MT nD τ sig Unit (Elt F) ℕ UU ℕ)} {n : Cnt}

/-- A part followed by the rest. -/
theorem st_bind {α β : Type} {p : Prog (TpuEff nD τ sig (Elt F) Λ₀ .tc) α} {f : α → Prog (TpuEff nD τ sig (Elt F) Λ₀ .tc) β}
    {Q : β → sProp (MT nD τ sig Unit (Elt F) ℕ UU ℕ)} (h : St A B K c R n ⊢ wpk c p (fun a => wpk c (f a) Q)) :
    St A B K c R n ⊢ wpk c (p >>= f) Q := by
  unfold wpk at *; rw [wp_bind]; exact h

/-- All of the body but its last three waits. -/
theorem run_part50 {Q : Dev nD → sProp (MT nD τ sig Unit (Elt F) ℕ UU ℕ)}
    (h : St A B K c R ⟨7, 7, true, 14, 14, 2, 14, 16, 14, 14, 11⟩ ⊢ Q c) :
    St A B K c R ⟨0, 0, false, 0, 0, 0, 0, 0, 0, 0, 0⟩ ⊢ wpk c (atArgs (k0_part50 (F := F))) Q := by
  unfold atArgs
  rw [k0_part50_eq_skeleton]; unfold k0_part50_skel
  refine st_bind (run_part1 (fun _ _ _ _ => ?_))
  try dsimp only
  refine st_bind (run_part2 (fun _ _ _ => ?_))
  try dsimp only
  refine st_bind (run_part3 (fun _ _ _ => ?_))
  try dsimp only
  refine st_bind (run_part4 (fun _ => ?_))
  try dsimp only
  refine st_bind (run_part5 (fun _ _ _ => ?_))
  try dsimp only
  refine st_bind (run_part6 (fun _ _ => ?_))
  try dsimp only
  refine st_bind (run_part7 (fun _ _ _ _ => ?_))
  try dsimp only
  refine st_bind (run_part8 (fun _ _ => ?_))
  try dsimp only
  refine st_bind (run_part9 (fun _ _ => ?_))
  try dsimp only
  refine st_bind (run_part10 (fun _ _ => ?_))
  try dsimp only
  refine st_bind (run_part11 (fun _ _ _ => ?_))
  try dsimp only
  refine st_bind (run_part12 (fun _ => ?_))
  try dsimp only
  refine st_bind (run_part13 (fun _ _ _ _ => ?_))
  try dsimp only
  refine st_bind (run_part14 (fun _ _ => ?_))
  try dsimp only
  refine st_bind (run_part15 (fun _ _ _ _ => ?_))
  try dsimp only
  refine st_bind (run_part16 (fun _ _ => ?_))
  try dsimp only
  refine st_bind (run_part17 (fun _ => ?_))
  try dsimp only
  refine st_bind (run_part18 (fun _ => ?_))
  try dsimp only
  refine st_bind (run_part19 ?_)
  try dsimp only
  refine st_bind (run_part20 ?_)
  try dsimp only
  refine st_bind (run_part21 (hv := congrArg (fun v => shapeCast S64x256 (truncf .bf16 v bitsLt_bf16_f32 : FVec F S64x256 .bf16) shapeCasts_S64x256_S64x256) (acc_zero A B c)) (fun _ _ _ _ _ _ => ?_))
  try dsimp only
  refine st_bind (run_part22 (fun _ _ => ?_))
  try dsimp only
  refine st_bind (run_part23 (fun _ _ _ _ => ?_))
  try dsimp only
  refine st_bind (run_part24 (fun _ _ => ?_))
  try dsimp only
  refine st_bind (run_part25 (hw := acc_zero A B c) (fun _ => ?_))
  try dsimp only
  refine st_bind (run_part26 ?_)
  try dsimp only
  refine st_bind (run_part27 (fun _ => ?_))
  try dsimp only
  refine st_bind (run_part28 (hv := congrArg (fun v => shapeCast S64x256 (truncf .bf16 v bitsLt_bf16_f32 : FVec F S64x256 .bf16) shapeCasts_S64x256_S64x256) (acc_one A B c)) (fun _ _ => ?_))
  try dsimp only
  refine st_bind (run_part29 (fun _ _ _ _ => ?_))
  try dsimp only
  refine st_bind (run_part30 (fun _ _ _ _ _ => ?_))
  try dsimp only
  refine st_bind (run_part31 (fun _ _ => ?_))
  try dsimp only
  refine st_bind (run_part32 (fun _ _ _ _ _ _ => ?_))
  try dsimp only
  refine st_bind (run_part33 (hw := acc_one A B c) (fun _ => ?_))
  try dsimp only
  refine st_bind (run_part34 ?_)
  try dsimp only
  refine st_bind (run_part35 ?_)
  try dsimp only
  refine st_bind (run_part36 ?_)
  try dsimp only
  refine st_bind (run_part37 ?_)
  try dsimp only
  refine st_bind (run_part38 (fun _ _ => ?_))
  try dsimp only
  refine st_bind (run_part39 (fun _ => ?_))
  try dsimp only
  refine st_bind (run_part40 ?_)
  try dsimp only
  refine st_bind (run_part41 (fun _ => ?_))
  try dsimp only
  refine st_bind (run_part42 (fun _ _ _ _ _ => ?_))
  try dsimp only
  refine st_bind (run_part43 (fun _ => ?_))
  try dsimp only
  refine st_bind (run_part44 (hw := (outBlk_bak A B c 1 1).symm) ?_)
  try dsimp only
  refine st_bind (run_part45 (fun _ _ _ => ?_))
  try dsimp only
  refine st_bind (run_part46 (fun _ => ?_))
  try dsimp only
  refine st_bind (run_part47 ?_)
  try dsimp only
  refine st_bind (run_part48 ?_)
  try dsimp only
  refine st_bind (run_part49 ?_)
  try dsimp only
  simp only [Prog.lift, Prog.bind_op, Prog.bind_ret, Prog.pure_eq_ret]
  refine st_wait_send2 (1, 3) ?_
  exact st_ret h

/-- The body: a device that starts with nothing done ends with everything done. -/
theorem run_body {Q : PUnit → sProp (MT nD τ sig Unit (Elt F) ℕ UU ℕ)}
    (h : St A B K c R ⟨7, 7, true, 14, 14, 2, 14, 16, 14, 14, 14⟩ ⊢ iprop(|={Set.univ}=> Q ⟨⟩)) :
    St A B K c R ⟨0, 0, false, 0, 0, 0, 0, 0, 0, 0, 0⟩ ⊢ wpk c (atArgs (cc0_body (F := F))) Q := by
  unfold atArgs
  rw [cc0_body_eq_skeleton]; unfold cc0_body_skel
  refine st_bind (run_part50 ?_)
  simp only [Prog.lift, Prog.bind_op, Prog.bind_ret, Prog.pure_eq_ret]
  refine st_wait_send2 (1, 4) ?_
  refine st_wait_send2 (1, 5) ?_
  refine st_wait_send2 (1, 6) ?_
  unfold wpk; rw [wp_ret]; exact h

end Cert.KProof
-- ==== Proof.Blocks.lean ====
/-
# The buffers taken apart and put together

At the start each scratch buffer is taken apart into the blocks the exchange moves, and at the end it is put together
again. The blocks of a buffer are the fibres of a function of the element, so they are disjoint and cover it.
-/
module

public import proofs.«01_k».proof.Proof.State

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

section Families
variable {M : Type} [URA M]

/-- Two resources in either order are equal. -/
theorem sep_comm' (X Y : sProp M) : BI.sep X Y = BI.sep Y X := equiv_iff.mp ⟨BI.sep_comm, BI.sep_comm⟩

/-- A family over `Option` is its entry at `none` and the others. -/
theorem bigSep_opt {I : Type} [Fintype I] (Φ : Option I → sProp M) :
    bigSep Finset.univ Φ = iprop(Φ none ∗ bigSep Finset.univ (fun x => Φ (some x))) := by
  rw [bigSep_univ_equiv (Equiv.optionEquivSumPUnit.{0} I).symm Φ, bigSep_univ_sum,
    bigSep_univ_of_subsingleton (PUnit.unit)]
  exact sep_comm' _ _
/-- A family over the distances is its entry at 0 and the others. -/
theorem bigSep_distances (Φ : Fin 8 → sProp M) :
    bigSep Finset.univ Φ = iprop(Φ 0 ∗ bigSep Finset.univ (fun k : Fin 7 => Φ k.succ)) := by
  rw [bigSep_univ_equiv (finSuccEquiv 7).symm Φ, bigSep_opt]
  rfl
/-- A family over halves and distances is its entries at distance 0 and the others. -/
theorem bigSep_halves (Φ : Fin 2 → Fin 8 → sProp M) :
    bigSep Finset.univ (fun x : Fin 2 × Fin 8 => Φ x.1 x.2)
      = iprop(bigSep Finset.univ (fun q => Φ q 0) ∗ bigSep Finset.univ (fun p : P => Φ p.1 p.2.succ)) := by
  rw [bigSep_univ_prod, bigSep_univ_prod, ← bigSep_sep']
  exact bigSep_congr fun q _ => bigSep_distances (Φ q)
/-- A family of two, written out, -/
theorem bigSep_two (Φ : Fin 2 → sProp M) : bigSep Finset.univ Φ = iprop(Φ 0 ∗ Φ 1) := bigSep_fin_two Φ
/-- Two families side by side are one family of pairs. -/
theorem bigSep_zip {I : Type} [Fintype I] (Φ Ψ : I → sProp M) :
    bigSep Finset.univ (fun i => iprop(Φ i ∗ Ψ i)) = iprop(bigSep Finset.univ Φ ∗ bigSep Finset.univ Ψ) := bigSep_sep' Finset.univ Φ Ψ
/-- and one of four. -/
theorem bigSep_four (Φ : Fin 4 → sProp M) : bigSep Finset.univ Φ = iprop(Φ 0 ∗ Φ 1 ∗ Φ 2 ∗ Φ 3) :=
  bigSep_univ_eq_bigSepL [0, 1, 2, 3] (by decide) (by decide) Φ

/-- The entries of a family over the transfer cells at distance 0, which no copy uses, -/
def fam0 (Φ : CI → sProp M) : sProp M := bigSep Finset.univ (fun a : Fin 4 => bigSep Finset.univ (fun q : Fin 2 => Φ (some (a, q, 0))))
/-- and those of array `a` at the other distances. -/
def famX (Φ : CI → sProp M) (a : Fin 4) : sProp M := bigSep Finset.univ (fun p : P => Φ (some (a, p.1, p.2.succ)))

/-- A family over the transfer cells of a device, -/
theorem bigSep_xcells (Φ : CI → sProp M) :
    bigSep Finset.univ (fun x : Fin 4 × Fin 2 × Fin 8 => Φ (some x)) = iprop(fam0 Φ ∗ famX Φ 0 ∗ famX Φ 1 ∗ famX Φ 2 ∗ famX Φ 3) := by
  rw [bigSep_univ_prod,
    bigSep_congr (s := Finset.univ) (fun (a : Fin 4) _ => bigSep_halves (fun q s => Φ (some (a, q, s)))), bigSep_sep']
  congr 1
  exact bigSep_four (famX Φ)
/-- and over all its cells. -/
theorem bigSep_cells (Φ : CI → sProp M) :
    bigSep Finset.univ Φ = iprop(Φ none ∗ fam0 Φ ∗ famX Φ 0 ∗ famX Φ 1 ∗ famX Φ 2 ∗ famX Φ 3) := by
  rw [bigSep_opt, bigSep_xcells]

end Families

/-! ## Blocks that are fibres -/

section Fibres
variable {Val : EltTy → Type}
local notation "𝕃" => MT nD τ sig Unit Val ℕ UU ℕ
variable {ι : Type} [Fintype ι] [DecidableEq ι] {ℓ : Loc nD τ sig} {q : PosShare TreeShare}

/-- Sets given by a key cover the buffer -/
theorem fibres_cover (T : ι → Finset (Idx ℓ)) (key : Idx ℓ → ι) (hT : ∀ i x, x ∈ T i ↔ key x = i) : Finset.univ.biUnion T = Finset.univ :=
  Finset.ext fun x => ⟨fun _ => Finset.mem_univ _, fun _ => Finset.mem_biUnion.mpr ⟨key x, Finset.mem_univ _, (hT _ _).mpr rfl⟩⟩
/-- and are disjoint. -/
theorem fibres_disjoint (T : ι → Finset (Idx ℓ)) (key : Idx ℓ → ι) (hT : ∀ i x, x ∈ T i ↔ key x = i) :
    ∀ i ∈ (Finset.univ : Finset ι), ∀ j ∈ (Finset.univ : Finset ι), i ≠ j → Disjoint (T i) (T j) :=
  fun i _ j _ hij => Finset.disjoint_left.mpr fun x h1 h2 => hij (((hT _ _).mp h1).symm.trans ((hT _ _).mp h2))

/-- A whole buffer taken apart. -/
theorem fibres_split (T : ι → Finset (Idx ℓ)) (key : Idx ℓ → ι) (hT : ∀ i x, x ∈ T i ↔ key x = i) :
    (iprop(∃ f : Buf Val ℓ, ℓ ↦{q} f) : sProp 𝕃) ⊢ bigSep Finset.univ (fun i => iprop(∃ f : Buf Val ℓ, ℓ ↦[T i]{q} f)) := by
  iintro ⟨%f, H⟩
  ihave H := (Entails.of_eq (show (ℓ ↦{q} f : sProp 𝕃) = bigSep Finset.univ (fun i => ℓ ↦[T i]{q} f) from by
    rw [← pointsTo_biUnion _ _ (fibres_disjoint T key hT), fibres_cover T key hT])) $$ H
  iapply (show bigSep Finset.univ (fun i => (ℓ ↦[T i]{q} f : sProp 𝕃)) ⊢ bigSep Finset.univ (fun i => iprop(∃ f : Buf Val ℓ, ℓ ↦[T i]{q} f)) from
    bigSep_mono fun i _ => show (ℓ ↦[T i]{q} f : sProp 𝕃) ⊢ iprop(∃ f : Buf Val ℓ, ℓ ↦[T i]{q} f) from by iintro H; iexists f; iexact H)
  iexact H

/-- A whole buffer put together. -/
theorem fibres_join [∀ e, Nonempty (Val e)] (T : ι → Finset (Idx ℓ)) (key : Idx ℓ → ι) (hT : ∀ i x, x ∈ T i ↔ key x = i) :
    bigSep Finset.univ (fun i => iprop(∃ f : Buf Val ℓ, ℓ ↦[T i]{q} f)) ⊢ (iprop(∃ f : Buf Val ℓ, ℓ ↦{q} f) : sProp 𝕃) := by
  refine (BI.bigSep_exists_pi Finset.univ (fun (i : ι) (f : Buf Val ℓ) => (ℓ ↦[T i]{q} f : sProp 𝕃))).trans ?_
  iintro ⟨%fs, H⟩
  ihave H := (pointsTo_biUnion_join Finset.univ T fs (fun x => fs (key x) x) (fibres_disjoint T key hT)) $$ H
  icases H with ⟨%g, -, H⟩
  rw [fibres_cover T key hT]
  iexists g; iexact H

end Fibres

/-! ## The three scratch buffers -/

variable {F : FTy → Type} [FloatOps F]
local notation "𝕄" => MT nD τ sig Unit (Elt F) ℕ UU ℕ

omit [FloatOps F] in
/-- The distance from `c` to `r`, -/
theorem key_rot (c r : Dev nD) (s : Fin 8) : (rotE c).symm r = s ↔ r = rot c s := Equiv.symm_apply_eq _
omit [FloatOps F] in
/-- and from `r` to `c`. -/
theorem key_bak (c r : Dev nD) (s : Fin 8) : (bakE c).symm r = s ↔ r = bak c s := Equiv.symm_apply_eq _
omit [FloatOps F] in
/-- The blocks of rows are given by the key `rowDev`, -/
theorem mem_rR_dev (r : Dev nD) (i : S512x512.Idx) : i ∈ (rR r).set ↔ rowDev i = r := (mem_rR r i).trans (Fin.ext_iff (a := rowDev i)).symm
omit [FloatOps F] in
/-- their halves by `rowDev` and `colHalf`, -/
theorem mem_rP_dev (r : Dev nD) (q : Fin 2) (i : S512x512.Idx) : i ∈ (rP r q).set ↔ rowDev i = r ∧ colHalf i = q :=
  (mem_rP r q i).trans (and_congr (Fin.ext_iff (a := rowDev i)).symm (Fin.ext_iff (a := colHalf i)).symm)
/-- The half of the landing buffer's slots an element is in. -/
def slotHalf (i : S8x64x512.Idx) : Fin 2 := ⟨(i 2).val / 256, by have h : (i 2).val < 512 := (i 2).isLt; omega⟩
omit [FloatOps F] in
/-- and the halves of the slots by the slot and its half. -/
theorem mem_rS_dev (s : Fin 8) (q : Fin 2) (i : S8x64x512.Idx) : i ∈ (rS s q).set ↔ ((i 0 : Fin 8) = s ∧ slotHalf i = q) :=
  (mem_rS s q i).trans (and_congr (Fin.ext_iff (a := (i 0 : Fin 8))).symm (Fin.ext_iff (a := slotHalf i)).symm)

/-- Pairs are equal when their parts are. -/
theorem pair_iff {α β : Type} (x : α × β) (a : α) (b : β) : (a, b) = x ↔ a = x.1 ∧ b = x.2 := Prod.ext_iff

variable (c : Dev nD)

/-- The shares' buffer in rows: its own, and those of the device at each distance. -/
theorem part_split : (iprop(∃ f : S512x512.Idx → Elt F .bf16, ((c : Thread nD τ).loc cc0_scratch0) ↦{fullShare} f) : sProp 𝕄)
    ⊢ iprop(partAny c c ∗ bigSep Finset.univ (fun k : Fin 7 => partAny c (rot c k.succ))) := by
  refine (fibres_split (ℓ := (c : Thread nD τ).loc cc0_scratch0) (ι := Fin 8) (fun s => (rR (rot c s)).set) (fun i => (rotE c).symm (rowDev i))
    (fun s i => (mem_rR_dev _ i).trans (key_rot c _ s).symm)).trans ?_
  rw [bigSep_distances, rot_zero]
  exact Entails.refl _
/-- The landing buffer in half slots. -/
theorem stag_split : (iprop(∃ f : S8x64x512.Idx → Elt F .bf16, ((c : Thread nD τ).loc cc0_scratch1) ↦{fullShare} f) : sProp 𝕄)
    ⊢ iprop((stagAny c 0 0 ∗ stagAny c 0 1) ∗ bigSep Finset.univ (fun k : Fin 7 => iprop(stagAny c k.succ 0 ∗ stagAny c k.succ 1))) := by
  refine (fibres_split (ℓ := (c : Thread nD τ).loc cc0_scratch1) (ι := Fin 8 × Fin 2) (fun x => (rS x.1 x.2).set) (fun i => ((i 0 : Fin 8), slotHalf i))
    (fun x i => (mem_rS_dev _ _ i).trans (pair_iff _ _ _).symm)).trans ?_
  rw [bigSep_univ_prod, bigSep_congr (s := Finset.univ) (fun (s : Fin 8) _ => bigSep_fin_two _), bigSep_distances]
  exact Entails.refl _
/-- The gathered buffer in half rows: its own, and those of the device at each distance. -/
theorem gat_split : (iprop(∃ f : S512x512.Idx → Elt F .bf16, ((c : Thread nD τ).loc cc0_scratch2) ↦{fullShare} f) : sProp 𝕄)
    ⊢ iprop(bigSep Finset.univ (fun q : Fin 2 => gatAny c c q) ∗ bigSep Finset.univ (fun k : Fin 7 => iprop(gatAny c (rot c k.succ) 0 ∗ gatAny c (rot c k.succ) 1))) := by
  refine (fibres_split (ℓ := (c : Thread nD τ).loc cc0_scratch2) (ι := Fin 8 × Fin 2) (fun x => (rP (rot c x.1) x.2).set) (fun i => ((rotE c).symm (rowDev i), colHalf i))
    (fun x i => (mem_rP_dev _ _ i).trans ((and_congr_left' (key_rot c _ x.1).symm).trans (pair_iff _ _ _).symm))).trans ?_
  rw [bigSep_fin_two, bigSep_univ_prod, bigSep_congr (s := Finset.univ) (fun (s : Fin 8) _ => bigSep_fin_two _), bigSep_distances, rot_zero]
  exact Entails.refl _

/-- A family over halves and distances, ready to be put together. -/
theorem halves_join (Φ : Fin 8 → Fin 2 → sProp 𝕄) :
    iprop(bigSep Finset.univ (fun q => Φ 0 q) ∗ bigSep Finset.univ (fun p : P => Φ p.2.succ p.1)) ⊢ bigSep Finset.univ (fun x : Fin 8 × Fin 2 => Φ x.1 x.2) := by
  refine (Entails.of_eq (bigSep_halves (fun q s => Φ s q)).symm).trans (Entails.of_eq ?_)
  rw [bigSep_univ_equiv (Equiv.prodComm (Fin 8) (Fin 2))]
  rfl

/-- The shares' buffer put together. -/
theorem part_join [∀ e, Nonempty (Elt F e)] :
    (iprop(bigSep Finset.univ (fun q : Fin 2 => iprop(∃ f, partP c (rP c q).set f)) ∗ bigSep Finset.univ (fun p : P => iprop(∃ f, partP c (rP (rot c p.2.succ) p.1).set f))) : sProp 𝕄)
    ⊢ iprop(∃ f : S512x512.Idx → Elt F .bf16, ((c : Thread nD τ).loc cc0_scratch0) ↦{fullShare} f) := by
  refine BIBase.Entails.trans ?_ (fibres_join (ℓ := (c : Thread nD τ).loc cc0_scratch0) (ι := Fin 8 × Fin 2) (fun x => (rP (rot c x.1) x.2).set) (fun i => ((rotE c).symm (rowDev i), colHalf i))
    (fun x i => (mem_rP_dev _ _ i).trans ((and_congr_left' (key_rot c _ x.1).symm).trans (pair_iff _ _ _).symm)))
  refine BIBase.Entails.trans (Entails.of_eq ?_) (halves_join (fun s q => iprop(∃ f, partP c (rP (rot c s) q).set f)))
  rw [rot_zero]
/-- The landing buffer put together. -/
theorem stag_join [∀ e, Nonempty (Elt F e)] :
    (iprop(bigSep Finset.univ (fun q : Fin 2 => stagAny c 0 q) ∗ bigSep Finset.univ (fun p : P => stagAny c p.2.succ p.1)) : sProp 𝕄)
    ⊢ iprop(∃ f : S8x64x512.Idx → Elt F .bf16, ((c : Thread nD τ).loc cc0_scratch1) ↦{fullShare} f) :=
  (halves_join (fun s q => stagAny c s q)).trans (fibres_join (ℓ := (c : Thread nD τ).loc cc0_scratch1) (ι := Fin 8 × Fin 2) (fun x => (rS x.1 x.2).set) (fun i => ((i 0 : Fin 8), slotHalf i))
    (fun x i => (mem_rS_dev _ _ i).trans (pair_iff _ _ _).symm))
/-- The gathered buffer put together. -/
theorem gat_join [∀ e, Nonempty (Elt F e)] :
    (iprop(bigSep Finset.univ (fun q : Fin 2 => gatAny c c q) ∗ bigSep Finset.univ (fun p : P => gatAny c (bak c p.2.succ) p.1)) : sProp 𝕄)
    ⊢ iprop(∃ f : S512x512.Idx → Elt F .bf16, ((c : Thread nD τ).loc cc0_scratch2) ↦{fullShare} f) := by
  refine BIBase.Entails.trans ?_ (fibres_join (ℓ := (c : Thread nD τ).loc cc0_scratch2) (ι := Fin 8 × Fin 2) (fun x => (rP (bak c x.1) x.2).set) (fun i => ((bakE c).symm (rowDev i), colHalf i))
    (fun x i => (mem_rP_dev _ _ i).trans ((and_congr_left' (key_bak c _ x.1).symm).trans (pair_iff _ _ _).symm)))
  refine BIBase.Entails.trans (Entails.of_eq ?_) (halves_join (fun s q => gatAny c (bak c s) q))
  rw [bak_zero]

end Cert.KProof
-- ==== Proof.Ends.lean ====
/-
# The state at the start and at the end

What a device is dealt at the launch is its state with nothing done. Its state with everything done is its result, its
buffers whole again and all its semaphores at zero.
-/
module

public import proofs.«01_k».proof.Proof.Blocks

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S512x256.Idx → Elt F .f32) (B : Dev nD → S256x512.Idx → Elt F .f32)
variable (K : Dev nD × CI → ℕ) (c : Dev nD)

/-! ## What the launch deals a device -/

/-- Its positions, at the beginning of all its cells; -/
def Pos : sProp 𝕄 := bigSep Finset.univ (fun k : CI => atPos ER (kcell (c, k)) 0 ∅ 0)
/-- the right to one signal to each other device; -/
def TokB : sProp 𝕄 := bigSep Finset.univ (fun k : Fin 7 => dutyTok ER (barCell (rot c k.succ)) 0 k.rev)
/-- the rights that its copies complete at its own cells of array `a` -/
def TokS (a : Fin 4) : sProp 𝕄 := bigSep Finset.univ (fun p : P => dutyTok ER (xCell c a p.1 p.2.succ) 0 0)
/-- and at the receivers' cells; -/
def TokR (a : Fin 4) : sProp 𝕄 := bigSep Finset.univ (fun p : P => dutyTok ER (xCell (rot c p.2.succ) a p.1 p.2.succ) 0 0)
/-- the credit for what arrives at its cells of array `a`. -/
def CredX (a : Fin 4) : sProp 𝕄 := bigSep Finset.univ (fun p : P => cred (tallyAt (xCell c a p.1 p.2.succ) () N))
/-- All a device's tokens, -/
def Toks : sProp 𝕄 := iprop(TokB c ∗ TokS c 0 ∗ TokR c 1 ∗ TokS c 2 ∗ TokR c 3)
/-- and its credits: for the barrier's seven signals and the copies that arrive. -/
def Creds : sProp 𝕄 := iprop(cred (tallyAt (barCell c) () 7) ∗ CredX c 1 ∗ CredX c 3)
/-- Three buffers of scratch. -/
def Scratch : sProp 𝕄 :=
  iprop((∃ f : S512x512.Idx → Elt F .bf16, ((c : Thread nD τ).loc cc0_scratch0) ↦{fullShare} f)
    ∗ (∃ f : S8x64x512.Idx → Elt F .bf16, ((c : Thread nD τ).loc cc0_scratch1) ↦{fullShare} f)
    ∗ (∃ f : S512x512.Idx → Elt F .bf16, ((c : Thread nD τ).loc cc0_scratch2) ↦{fullShare} f))
/-- What no step touches: its own block of the shares, slot 0 of the landing buffer, the cells of distance 0. -/
def Left : sProp 𝕄 :=
  iprop(partAny c c ∗ (stagAny c 0 0 ∗ stagAny c 0 1) ∗ fam0 (fun k : CI => (atPos ER (kcell (c, k)) 0 ∅ 0 : sProp 𝕄)))

/-- What the signals hand over is the landing buffer's slots and the others' blocks of the gathered buffer. -/
theorem pays_eq : (bigSep Finset.univ (fun k : Fin 7 => barPay (rot c k.succ) k.rev) : sProp 𝕄)
    = iprop(bigSep Finset.univ (fun k : Fin 7 => iprop(stagAny c k.succ 0 ∗ stagAny c k.succ 1))
        ∗ bigSep Finset.univ (fun k : Fin 7 => iprop(gatAny c (rot c k.succ) 0 ∗ gatAny c (rot c k.succ) 1))) := by
  rw [bigSep_univ_equiv (Fin.revPerm : Fin 7 ≃ Fin 7) (fun k : Fin 7 => (iprop(stagAny c k.succ 0 ∗ stagAny c k.succ 1) : sProp 𝕄)), ← bigSep_sep']
  refine bigSep_congr fun k _ => ?_
  unfold barPay
  rw [rot_rot_rev]
  rfl

/-- What the launch deals is the state with nothing done. -/
theorem enter :
    (iprop(Recs A B K ∗ (Pos c ∗ Toks c ∗ Creds c) ∗ Scratch c ∗ Owe c 0 0 0 ∗ FA A c ∗ FB B c
      ∗ ∃ f : S512x512.Idx → Elt F .f32, ((c : Thread nD τ).loc cc0_stg2_0) ↦{fullShare} f) : sProp 𝕄)
    ⊢ St A B K c (Left c) ⟨0, 0, false, 0, 0, 0, 0, 0, 0, 0, 0⟩ := by
  unfold St Pos Toks Creds Scratch
  rw [bigSep_cells]
  iintro ⟨HR, ⟨⟨Hb, H0, Hx0, Hx1, Hx2, Hx3⟩, ⟨TB, T0, T1, T2, T3⟩, CB, C1, C3⟩, ⟨Sp, Ss, Sg⟩, Ho, Ha, Hbb, ⟨%f, Hout⟩⟩
  ihave Sp := (part_split (F := F) c) $$ Sp
  icases Sp with ⟨P0, PA⟩
  ihave Ss := (stag_split (F := F) c) $$ Ss
  icases Ss with ⟨S0, SA⟩
  ihave Sg := (gat_split (F := F) c) $$ Sg
  icases Sg with ⟨G0, GA⟩
  isplitl [HR]; · iexact HR
  isplitl [Ho]; · iexact Ho
  isplitl [TB SA GA]
  · unfold FSig; dsimp only; rw [trk_all_first, bigSep_zip (fun k : Fin 7 => dutyTok ER (barCell (rot c k.succ)) 0 k.rev) (fun k : Fin 7 => barPay (rot c k.succ) k.rev), pays_eq]
    isplitl [TB]; · unfold TokB; iexact TB
    isplitl [SA]; · iexact SA
    iexact GA
  isplitl [Hb CB]
  · unfold FBar; dsimp only; rw [if_neg Bool.false_ne_true]
    isplitl [Hb]; · iexact Hb
    iexact CB
  isplitl [PA]; · unfold FPartA; dsimp only; rw [trk_all_first]; iexact PA
  isplitr; · unfold FPartD; dsimp only; rw [avail_none]; iempintro
  isplitl [T0 T1]
  · unfold FSend1; dsimp only; rw [trk_all_first, bigSep_zip]
    isplitl [T0]; · unfold TokS; iexact T0
    unfold TokR; iexact T1
  isplitr; · unfold FDst1; dsimp only; rw [if_neg Bool.false_ne_true, avail_none]; iempintro
  isplitr; · unfold FDst2; dsimp only; rw [if_neg Bool.false_ne_true, avail_none]; iempintro
  isplitl [Hx1 C1]
  · unfold FRecv1; dsimp only; rw [trk_all_first, bigSep_zip]
    isplitl [Hx1]; · unfold famX; iexact Hx1
    unfold CredX; iexact C1
  isplitl [G0]; · unfold FGatR; dsimp only; rw [trk_all_first]; iexact G0
  isplitr; · unfold FGatT; dsimp only; rw [avail_none]; iempintro
  isplitl [T2 T3]
  · unfold FSend2; dsimp only; rw [trk_all_first, bigSep_zip]
    isplitl [T2]; · unfold TokS; iexact T2
    unfold TokR; iexact T3
  isplitl [Hx0]; · unfold FWait1; dsimp only; rw [trk_all_first]; unfold famX; iexact Hx0
  isplitl [Hx3 C3]
  · unfold FRecv2; dsimp only; rw [trk_all_first, bigSep_zip]
    isplitl [Hx3]; · unfold famX; iexact Hx3
    unfold CredX; iexact C3
  isplitl [Hx2]; · unfold FWait2; dsimp only; rw [trk_all_first]; unfold famX; iexact Hx2
  isplitl [Hout]
  · unfold FOut; iexists f
    isplitr; · ipureintro; exact fun i hi => absurd hi (Nat.not_lt_zero _)
    iexact Hout
  isplitl [Ha]; · iexact Ha
  isplitl [Hbb]; · iexact Hbb
  unfold Left
  isplitl [P0]; · iexact P0
  isplitl [S0]; · iexact S0
  iexact H0

/-! ## The end -/

/-- The cells no copy uses close, -/
theorem close_zero : (iprop(Recs A B K ∗ fam0 (fun k : CI => (atPos ER (kcell (c, k)) 0 ∅ 0 : sProp 𝕄))) : sProp 𝕄)
    ⊢ iprop(|={Set.univ}=> fam0 (fun k : CI => (semVal (kcell (c, k)) 0 : sProp 𝕄))) := by
  have h (a : Fin 4) (q : Fin 2) : (iprop(Recs A B K ∗ atPos ER (kcell (c, some (a, q, 0))) 0 ∅ 0) : sProp 𝕄)
      ⊢ iprop(|={Set.univ}=> semVal (kcell (c, some (a, q, 0))) 0) := by
    iintro ⟨HR, Hat⟩
    ihave HR := (Recs_cell A B K (c, some (a, q, 0))) $$ HR
    icases HR with ⟨HI, -⟩
    iapply (Rounds.cell_close ER (Rd A B) (Set.mem_univ (K (c, some (a, q, 0)))) (fun h => h) (R := 0) (fun r _ => duties_x0 A B c a q r))
    isplitl [HI]; · iexact HI
    iexact Hat
  unfold fam0
  have hp {I : Type} [Fintype I] [DecidableEq I] (Φ Ψ : I → sProp 𝕄) (hΦ : ∀ i, iprop(Recs A B K ∗ Φ i) ⊢ iprop(|={Set.univ}=> Ψ i)) :
      iprop(Recs A B K ∗ bigSep Finset.univ Φ) ⊢ iprop(|={Set.univ}=> bigSep Finset.univ Ψ) :=
    ((sep_mono_left (BI.bigSep_of_persistent Finset.univ (Recs A B K))).trans (by rw [← bigSep_sep']; exact bigSep_mono fun i _ => hΦ i)).trans (bigSep_fupd _ _)
  exact hp _ _ fun a => hp _ _ fun q => h a q

/-- and so does the barrier's. -/
theorem close_bar : (iprop(Recs A B K ∗ atPos ER (barCell c) 1 ∅ 0) : sProp 𝕄) ⊢ iprop(|={Set.univ}=> semVal (barCell c) 0) := by
  iintro ⟨HR, Hat⟩
  ihave HR := (Recs_cell A B K (c, none)) $$ HR
  icases HR with ⟨HI, -⟩
  iapply (Rounds.cell_close ER (Rd A B) (Set.mem_univ (K (c, none))) (fun h => h) (R := 1) (duties_later A B (barCell c)))
  isplitl [HI]; · iexact HI
  iexact Hat

/-- A block of the shares at some contents in each half. -/
theorem own_part : (partAny c c : sProp 𝕄) ⊢ bigSep Finset.univ (fun q : Fin 2 => iprop(∃ f, partP c (rP c q).set f)) := by
  rw [bigSep_two]
  unfold partAny partP
  iintro ⟨%f, H⟩
  rw [rR_set]
  ihave H := (pointsTo_union (disjoint_halves c)).1 $$ H
  icases H with ⟨H0, H1⟩
  isplitl [H0]
  · iexists f; iexact H0
  · iexists f; iexact H1
/-- The device's own sums are whole again when the shares lent are back. -/
theorem own_gat : (iprop(bigSep Finset.univ (fun q : Fin 2 => gatP c (rP c q).set (Transfers.shareDrop fullShare 7) (gatVal A B))
      ∗ bigSep Finset.univ (fun p : P => gatP c (rP c p.1).set (tok p.2.succ) (gatVal A B))) : sProp 𝕄)
    ⊢ bigSep Finset.univ (fun q : Fin 2 => gatAny c c q) := by
  rw [bigSep_univ_prod, ← bigSep_sep']
  refine bigSep_mono fun q _ => ?_
  unfold gatAny gatP
  show iprop((((c : Thread nD τ).loc cc0_scratch2) ↦[(rP c q).set]{Transfers.shareDrop fullShare 7} (gatVal A B))
    ∗ bigSep Finset.univ (fun k : Fin 7 => (((c : Thread nD τ).loc cc0_scratch2) ↦[(rP c q).set]{Transfers.shareTok fullShare 7 k} (gatVal A B)))) ⊢ _
  refine (Transfers.pointsTo_toks_join fullShare 7).trans ?_
  show (((c : Thread nD τ).loc cc0_scratch2) ↦[(rP c q).set]{fullShare} (gatVal A B) : sProp 𝕄) ⊢ iprop(∃ f : S512x512.Idx → Elt F .bf16, ((c : Thread nD τ).loc cc0_scratch2) ↦[(rP c q).set]{fullShare} f)
  iintro H; iexists (gatVal A B); iexact H

/-- The state with everything done: all semaphores at zero, the scratch whole, nothing owed, the factors as they were
    and the result right. -/
theorem leave [∀ e, Nonempty (Elt F e)] :
    St A B K c (Left c) ⟨7, 7, true, 14, 14, 2, 14, 16, 14, 14, 14⟩
    ⊢ iprop(|={Set.univ}=> (semVal (barCell c) 0 ∗ bigSep Finset.univ (fun x : Fin 4 × Fin 2 × Fin 8 => semVal (kcell (c, some x)) 0)
        ∗ Scratch c ∗ Owe c 7 14 14 ∗ FA A c ∗ FB B c
        ∗ ((c : Thread nD τ).loc cc0_stg2_0) ↦{fullShare} (outVal A B c))) := by
  have hk (k : Fin 7) : k.val < 7 := k.isLt
  have hq (q : Fin 2) : q.val < 2 := q.isLt
  unfold St Left FBar FRecv1 FGatR FWait1 FRecv2 FWait2 FOut
  dsimp only
  rw [if_pos rfl, trk_all_second _ _ _ 14 rk_lt, trk_all_second _ _ _ 14 rk_lt, trk_all_second _ _ _ 14 rk_lt, trk_all_second _ _ _ 14 rk_lt,
    trk_all_second _ _ _ 2 hq, bigSep_zip, bigSep_zip, bigSep_zip, bigSep_zip]
  iintro ⟨#HR, Ho, -, Hb, -, -, -, -, -, H1, HG, -, -, Hw1, H2, Hw2, Hout, Ha, Hbb, HP, ⟨S0, S1⟩, H0⟩
  icases H1 with ⟨V1, D1⟩
  icases Hw1 with ⟨V0, D0⟩
  icases H2 with ⟨V3, D3⟩
  icases Hw2 with ⟨V2, D2⟩
  icases Hout with ⟨%f, %hf, Hout⟩
  have hf := OutOK_all A B c f hf
  subst hf
  imod (close_bar A B K c) $$ [Hb] with Hb
  · isplitr; · iexact HR
    iexact Hb
  imod (close_zero A B K c) $$ [H0] with H0
  · isplitr; · iexact HR
    iexact H0
  imodintro
  isplitl [Hb]; · iexact Hb
  isplitl [V0 V1 V2 V3 H0]
  · iapply (show (iprop(fam0 (fun k : CI => (semVal (kcell (c, k)) 0 : sProp 𝕄)) ∗ famX (fun k : CI => (semVal (kcell (c, k)) 0 : sProp 𝕄)) 0
        ∗ famX (fun k : CI => (semVal (kcell (c, k)) 0 : sProp 𝕄)) 1 ∗ famX (fun k : CI => (semVal (kcell (c, k)) 0 : sProp 𝕄)) 2
        ∗ famX (fun k : CI => (semVal (kcell (c, k)) 0 : sProp 𝕄)) 3) : sProp 𝕄) ⊢ _ from Entails.of_eq (bigSep_xcells (fun k : CI => (semVal (kcell (c, k)) 0 : sProp 𝕄))).symm)
    unfold famX
    isplitl [H0]; · iexact H0
    isplitl [V0]; · iexact V0
    isplitl [V1]; · iexact V1
    isplitl [V2]; · iexact V2
    iexact V3
  isplitl [HP D0 S0 S1 D1 HG D2 D3]
  · unfold Scratch
    isplitl [HP D0]
    · iapply (part_join (F := F) c)
      isplitl [HP]; · iapply (own_part (F := F) c); iexact HP
      iapply (show bigSep Finset.univ (fun p : P => (partP c (rP (rot c p.2.succ) p.1).set (partVal A B c) : sProp 𝕄)) ⊢ bigSep Finset.univ (fun p : P => iprop(∃ f, partP c (rP (rot c p.2.succ) p.1).set f)) from
        bigSep_mono fun p _ => show (partP c (rP (rot c p.2.succ) p.1).set (partVal A B c) : sProp 𝕄) ⊢ iprop(∃ f, partP c (rP (rot c p.2.succ) p.1).set f) from by iintro H; iexists (partVal A B c); iexact H)
      iexact D0
    isplitl [S0 S1 D1]
    · iapply (stag_join (F := F) c)
      isplitl [S0 S1]
      · rw [bigSep_two]
        isplitl [S0]; · iexact S0
        iexact S1
      iapply (show bigSep Finset.univ (fun p : P => (stagP c (rS p.2.succ p.1).set (stagVal A B c) : sProp 𝕄)) ⊢ bigSep Finset.univ (fun p : P => stagAny c p.2.succ p.1) from
        bigSep_mono fun p _ => show (stagP c (rS p.2.succ p.1).set (stagVal A B c) : sProp 𝕄) ⊢ stagAny c p.2.succ p.1 from by unfold stagAny; iintro H; iexists (stagVal A B c); iexact H)
      iexact D1
    · iapply (gat_join (F := F) c)
      isplitl [HG D2]
      · iapply (own_gat A B c)
        isplitl [HG]; · iexact HG
        iexact D2
      iapply (show bigSep Finset.univ (fun p : P => (gatP c (rP (bak c p.2.succ) p.1).set fullShare (gatVal A B) : sProp 𝕄)) ⊢ bigSep Finset.univ (fun p : P => gatAny c (bak c p.2.succ) p.1) from
        bigSep_mono fun p _ => show (gatP c (rP (bak c p.2.succ) p.1).set fullShare (gatVal A B) : sProp 𝕄) ⊢ gatAny c (bak c p.2.succ) p.1 from by unfold gatAny; iintro H; iexists (gatVal A B); iexact H)
      iexact D3
  isplitl [Ho]; · iexact Ho
  isplitl [Ha]; · iexact Ha
  isplitl [Hbb]; · iexact Hbb
  iexact Hout

end Cert.KProof
-- ==== Proof.Deal.lean ====
/-
# The launch's deal

The launch mints the rights to all duties of all cells and the credit for all that will arrive. Here they are dealt: each
right to the device that pays the duty, each credit to the device it arrives at, and every cell's invariant to all.
-/
module

public import proofs.«01_k».proof.Proof.Ends

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights -/

/-- The transfer semaphores are distinct, -/
theorem osem_injective : Function.Injective (osem : Fin 4 × Fin 2 × Fin 8 → SemLoc sig) := by
  rintro ⟨a, q, s⟩ ⟨a', q', s'⟩ h
  have h1 : dsem a q s = dsem a' q' s' := SemLoc.dma.inj h
  have h2 := congrArg dcode h1
  rw [dcode_dsem, dcode_dsem] at h2
  exact Option.some.inj h2
/-- a device's cells are, -/
theorem csem_injective : Function.Injective (csem : CI → SemLoc sig) := by
  rintro (_ | x) (_ | y) h
  · rfl
  · exact absurd (show (SemLoc.reg barS : SemLoc sig) = osem y from h) (by rintro ⟨⟩)
  · exact absurd (show (osem x : SemLoc sig) = SemLoc.reg barS from h) (by rintro ⟨⟩)
  · exact congrArg some (osem_injective h)
/-- and all devices' are. -/
theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]
/-- All cells. -/
def allCells : Finset (GSem nD τ sig) := Finset.univ.map ⟨kcell, kcell_injective⟩

/-- Duty `j` of a cell in its round. -/
abbrev tokOf (x : (Dev nD × CI) × Fin 7) : GSem nD τ sig × ℕ × Fin 7 := (kcell x.1, 0, x.2)
/-- The tokens are distinct. -/
theorem tokOf_injective : Function.Injective tokOf := by
  rintro ⟨x, j⟩ ⟨x', j'⟩ h
  rw [show x = x' from kcell_injective (congrArg Prod.fst h), show j = j' from congrArg (fun y : GSem nD τ sig × ℕ × Fin 7 => y.2.2) h]
/-- All tokens. -/
def allToks : Finset (GSem nD τ sig × ℕ × Fin 7) := Finset.univ.map ⟨tokOf, tokOf_injective⟩

variable (A : Dev nD → S512x256.Idx → Elt F .f32) (B : Dev nD → S256x512.Idx → Elt F .f32)

/-- What the launch element deals device `c`. -/
def G (c : Dev nD) : sProp 𝕄 :=
  iprop((bigSep Finset.univ fun k : CI => roundState ER (Rd A B) (kcell (c, k)) 0)
    ∗ (bigSep Finset.univ fun k : CI => iprop(atPos ER (kcell (c, k)) 0 ∅ 0 ∗ reached ER (kcell (c, k)) 0))
    ∗ bigSep Finset.univ fun k : CI => bigSep Finset.univ fun j : Fin 7 => dutyTok ER (kcell (c, k)) 0 j)

/-- The initial ghost state is every device's part of it. -/
theorem fund_cells : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : CI => bigSep Finset.univ fun j : Fin 7 => dutyTok ER (kcell (c, k)) 0 j := by
    unfold allToks; rw [bigSep_map, bigSep_univ_prod, bigSep_univ_prod]; rfl
  iintro HX
  imod (Rounds.fund ER (Rd A B) allCells allToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

/-- The barrier semaphore is the launch's one semaphore outside any scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores, all at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_opt]
  unfold Pipeline.ownSems0
  iintro ⟨HS, HB⟩
  isplitl [HB]; · iexact HB
  iexact HS

/-- From them each device's cells get their invariants. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : CI => iprop(∃ κ : ℕ, cellInv ER (Rd A B) κ (kcell (c, k))))
          ∗ (bigSep Finset.univ fun k : CI => iprop(atPos ER (kcell (c, k)) 0 ∅ 0 ∗ reached ER (kcell (c, k)) 0))
          ∗ bigSep Finset.univ fun k : CI => bigSep Finset.univ fun j : Fin 7 => dutyTok ER (kcell (c, k)) 0 j) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd A B) (kcell (c, k)) 0)
      ⊢ (|={Set.univ}=> bigSep Finset.univ fun k : CI => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights -/

/-- The device a signal goes to, and the number of the duty it pays there. -/
def toBar : Dev nD × Fin 7 ≃ Dev nD × Fin 7 where
  toFun x := (rot x.1 x.2.succ, x.2.rev)
  invFun x := (rot x.1 x.2.succ, x.2.rev)
  left_inv x := by simp only [rot_rot_rev, Fin.rev_rev]
  right_inv x := by simp only [rot_rot_rev, Fin.rev_rev]
/-- The device a copy goes to. -/
def toCopy : Dev nD × P ≃ Dev nD × P where
  toFun x := (rot x.1 x.2.2.succ, x.2)
  invFun x := (bak x.1 x.2.2.succ, x.2)
  left_inv x := by simp only [bak_rot]
  right_inv x := by simp only [rot_bak]

/-- The barriers' tokens, dealt to the devices that signal, -/
theorem bar_around : (bigSep Finset.univ fun c : Dev nD => bigSep Finset.univ fun j : Fin 7 => (dutyTok ER (barCell c) 0 j : sProp 𝕄))
    = bigSep Finset.univ fun c : Dev nD => TokB c := by
  rw [← bigSep_univ_prod (fun x : Dev nD × Fin 7 => (dutyTok ER (barCell x.1) 0 x.2 : sProp 𝕄)), bigSep_univ_equiv toBar, bigSep_univ_prod]
  rfl
/-- a copy array's, dealt to the devices that send, -/
theorem copy_around (a : Fin 4) : (bigSep Finset.univ fun c : Dev nD => (TokS c a : sProp 𝕄)) = bigSep Finset.univ fun c : Dev nD => TokR c a := by
  unfold TokS
  rw [← bigSep_univ_prod (fun x : Dev nD × P => (dutyTok ER (xCell x.1 a x.2.1 x.2.2.succ) 0 0 : sProp 𝕄)), bigSep_univ_equiv toCopy, bigSep_univ_prod]
  rfl

/-- Of the rights minted for a transfer cell the first is used, -/
theorem tok_first (c : Dev nD) (a : Fin 4) :
    (famX (fun k : CI => bigSep Finset.univ fun j : Fin 7 => (dutyTok ER (kcell (c, k)) 0 j : sProp 𝕄)) a) ⊢ TokS c a := by
  unfold famX TokS
  exact bigSep_mono fun p _ => bigSep_elim (Finset.mem_univ (0 : Fin 7))
/-- and for the barrier all. -/
theorem tok_own (c : Dev nD) :
    (bigSep Finset.univ fun k : CI => bigSep Finset.univ fun j : Fin 7 => (dutyTok ER (kcell (c, k)) 0 j : sProp 𝕄))
    ⊢ iprop((bigSep Finset.univ fun j : Fin 7 => dutyTok ER (barCell c) 0 j) ∗ TokS c 0 ∗ TokS c 1 ∗ TokS c 2 ∗ TokS c 3) := by
  rw [bigSep_cells]
  iintro ⟨HB, -, H0, H1, H2, H3⟩
  isplitl [HB]; · iexact HB
  isplitl [H0]; · iapply (tok_first (F := F) c 0); iexact H0
  isplitl [H1]; · iapply (tok_first (F := F) c 1); iexact H1
  isplitl [H2]; · iapply (tok_first (F := F) c 2); iexact H2
  iapply (tok_first (F := F) c 3); iexact H3

/-- and all of them. -/
theorem toks_around :
    (bigSep Finset.univ fun c : Dev nD => bigSep Finset.univ fun k : CI => bigSep Finset.univ fun j : Fin 7 => (dutyTok ER (kcell (c, k)) 0 j : sProp 𝕄))
    ⊢ bigSep Finset.univ fun c : Dev nD => Toks c := by
  refine BIBase.Entails.trans (bigSep_mono fun c _ => tok_own c) (Entails.of_eq ?_)
  unfold Toks
  rw [bigSep_zip, bigSep_zip, bigSep_zip, bigSep_zip, bigSep_zip, bigSep_zip, bigSep_zip, bigSep_zip, bar_around, copy_around 1, copy_around 3]

/-! ## Every device gets its part -/

/-- The invariants and marks, without the levels. -/
def Cells (K : Dev nD × CI → ℕ) : sProp 𝕄 :=
  bigSep Finset.univ (fun ck : Dev nD × CI => iprop(cellInv ER (Rd A B) (K ck) (kcell ck) ∗ reached ER (kcell ck) 0))
instance Cells_persistent (K : Dev nD × CI → ℕ) : BI.Persistent (Cells A B K) := by unfold Cells; infer_instance

/-- What the launch's step makes of a device's deal. -/
def G' (c : Dev nD) : sProp 𝕄 := iprop(∃ K, Cells A B K ∗ Pos c ∗ Toks c)

/-- A device's part of the deal, from the cells and its own. -/
theorem G'_intro (K : Dev nD × CI → ℕ) (c : Dev nD) : iprop(Cells A B K ∗ (Pos c ∗ Toks c)) ⊢ G' A B c := by
  unfold G'
  iintro ⟨HC, HP, HT⟩
  iexists K
  isplitl [HC]; · iexact HC
  isplitl [HP]; · iexact HP
  iexact HT

/-- A duplicable resource serves every member of a family. -/
theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices meet: each ends with all cells, its positions and its tokens. -/
theorem regroup :
    (bigSep Finset.univ fun c : Dev nD => iprop((bigSep Finset.univ fun k : CI => iprop(∃ κ : ℕ, cellInv ER (Rd A B) κ (kcell (c, k))))
          ∗ (bigSep Finset.univ fun k : CI => iprop(atPos ER (kcell (c, k)) 0 ∅ 0 ∗ reached ER (kcell (c, k)) 0))
          ∗ bigSep Finset.univ fun k : CI => bigSep Finset.univ fun j : Fin 7 => dutyTok ER (kcell (c, k)) 0 j) : sProp 𝕄)
      ⊢ bigSep Finset.univ (G' A B) := by
  rw [bigSep_sep', bigSep_sep', ← bigSep_univ_prod (fun ck : Dev nD × CI => iprop(∃ κ : ℕ, cellInv ER (Rd A B) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd A B) κ (kcell ck) : sProp 𝕄))) $$ HI
  icases HK with ⟨%K, #HI⟩
  ihave Htk := (toks_around (F := F)) $$ Htok
  iapply (bigSep_with_persistent (R := Cells A B K) fun c _ => G'_intro A B K c)
  isplitr
  · unfold Cells; rw [bigSep_zip]; isplitl; · iexact HI
    iexact HR
  · rw [bigSep_zip]
    isplitl [Hat]; · unfold Pos; iexact Hat
    iexact Htk

/-- The step at the launch, for every device at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credit -/

/-- What a device owes at the start. -/
abbrev O₀ (c : Dev nD) : CellTallies nD τ sig Unit := OW c 0 0 0

/-- Of tallies at distinct cells, one is at a given one of them, -/
theorem tally_single {ι : Type} [Fintype ι] [DecidableEq ι] {f : ι → GSem nD τ sig} (hf : Function.Injective f) (n : ℕ) (x : ι) :
    ∑ y, (tallyAt (f y) () n : CellTallies nD τ sig Unit) (f x) () = n := by
  rw [Fintype.sum_eq_single x fun y hy => by rw [tallyAt_apply, if_neg fun h => hy (hf h.1).symm], tallyAt_apply, if_pos ⟨rfl, rfl⟩]
/-- and none at another cell. -/
theorem tally_none {ι : Type} [Fintype ι] {f : ι → GSem nD τ sig} (n : ℕ) (g : GSem nD τ sig) (h : ∀ y, g ≠ f y) :
    ∑ y, (tallyAt (f y) () n : CellTallies nD τ sig Unit) g () = 0 :=
  Finset.sum_eq_zero fun y _ => by rw [tallyAt_apply, if_neg fun h' => h y h'.1]

/-- A device's barrier cell as a function of the device and the sender's number, -/
theorem owed_bars (g : GSem nD τ sig) : ∑ d : Dev nD, OB d 0 g () = ∑ k : Fin 7, ∑ d : Dev nD, (tallyAt (barCell d) () 1 : CellTallies nD τ sig Unit) g () := by
  unfold OB
  simp only [Finset.sum_apply, Finsupp.finset_sum_apply, Nat.zero_le, Finset.filter_true]
  rw [Finset.sum_comm, ← Fintype.sum_prod_type' (fun (k : Fin 7) (d : Dev nD) => (tallyAt (barCell (rot d k.succ)) () 1 : CellTallies nD τ sig Unit) g ())]
  rw [← Fintype.sum_prod_type' (fun (k : Fin 7) (d : Dev nD) => (tallyAt (barCell d) () 1 : CellTallies nD τ sig Unit) g ())]
  exact Fintype.sum_equiv ((Equiv.prodComm _ _).trans (toBar.trans (Equiv.prodComm _ _))) _ _ fun x => rfl
/-- and the cells of array `a` likewise. -/
theorem owed_copies (a : Fin 4) (g : GSem nD τ sig) :
    ∑ d : Dev nD, OX a d 0 g () = ∑ x : Dev nD × P, (tallyAt (xCell x.1 a x.2.1 x.2.2.succ) () N : CellTallies nD τ sig Unit) g () := by
  unfold OX
  simp only [Finset.sum_apply, Finsupp.finset_sum_apply, Nat.zero_le, Finset.filter_true]
  rw [← Fintype.sum_prod_type' (fun (d : Dev nD) (p : P) => (tallyAt (xCell (rot d p.2.succ) a p.1 p.2.succ) () N : CellTallies nD τ sig Unit) g ())]
  exact Fintype.sum_equiv toCopy _ _ fun x => rfl

/-- What all devices owe a cell at the start: signals and copies of the two exchanges. -/
theorem owed_all (g : GSem nD τ sig) : launchCredit (Pipeline.owing O₀) 0 g ()
    = (∑ k : Fin 7, ∑ d : Dev nD, (tallyAt (barCell d) () 1 : CellTallies nD τ sig Unit) g ())
      + (∑ x : Dev nD × P, (tallyAt (xCell x.1 1 x.2.1 x.2.2.succ) () N : CellTallies nD τ sig Unit) g ())
      + (∑ x : Dev nD × P, (tallyAt (xCell x.1 3 x.2.1 x.2.2.succ) () N : CellTallies nD τ sig Unit) g ()) := by
  rw [Pipeline.launchCredit_owing, ← owed_bars, ← owed_copies, ← owed_copies, ← Finset.sum_add_distrib, ← Finset.sum_add_distrib]
  rfl

/-- Different devices have different barriers -/
theorem bar_injective : Function.Injective barCell := fun a b h => congrArg (fun g : GSem nD τ sig => g.1.1) h
/-- and different transfer cells. -/
theorem xCell_injective (a : Fin 4) : Function.Injective (fun x : Dev nD × P => xCell x.1 a x.2.1 x.2.2.succ) := by
  rintro ⟨c, q, k⟩ ⟨c', q', k'⟩ h
  have h1 : (c, some (a, q, k.succ)) = (c', some (a, q', k'.succ)) := kcell_injective h
  have h2 := Option.some.inj (congrArg Prod.snd h1)
  have h3 : q = q' := congrArg (fun x : Fin 4 × Fin 2 × Fin 8 => x.2.1) h2
  have h4 : k.succ = k'.succ := congrArg (fun x : Fin 4 × Fin 2 × Fin 8 => x.2.2) h2
  rw [show c = c' from congrArg Prod.fst h1, h3, Fin.succ_injective _ h4]
/-- A barrier is no transfer cell. -/
theorem bar_ne_x (c d : Dev nD) (a : Fin 4) (q : Fin 2) (s : Fin 8) : barCell c ≠ xCell d a q s := fun h => by
  have := congrArg Prod.snd (kcell_injective (a₁ := (c, none)) (a₂ := (d, some (a, q, s))) h)
  cases this
/-- Transfer cells of different arrays differ. -/
theorem x_ne_x (c d : Dev nD) {a b : Fin 4} (hab : a ≠ b) (q q' : Fin 2) (s s' : Fin 8) : xCell c a q s ≠ xCell d b q' s' := fun h => by
  have := congrArg Prod.snd (kcell_injective (a₁ := (c, some (a, q, s))) (a₂ := (d, some (b, q', s'))) h)
  exact hab (congrArg Prod.fst (Option.some.inj this))

/-- A barrier is owed 7, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [owed_all, Finsupp.single_eq_same, tally_none (ι := Dev nD × P) N _ fun y => bar_ne_x _ _ _ _ _, tally_none (ι := Dev nD × P) N _ fun y => bar_ne_x _ _ _ _ _,
    Finset.sum_congr rfl fun k _ => tally_single bar_injective 1 c]
  rfl
/-- a receive cell of the first exchange one copy, -/
theorem launch_first (c : Dev nD) (p : P) :
    tallyOn (xCell c 1 p.1 p.2.succ) (launchCredit (Pipeline.owing O₀) 0 (xCell c 1 p.1 p.2.succ)) = (tallyAt (xCell c 1 p.1 p.2.succ) () N : CellTallies nD τ sig Unit) := by
  conv_rhs => unfold tallyAt
  refine congrArg _ (Finsupp.ext fun u => ?_); cases u
  rw [owed_all, Finsupp.single_eq_same, Finset.sum_congr rfl fun k _ => tally_none (ι := Dev nD) 1 _ fun y => (bar_ne_x _ _ _ _ _).symm,
    tally_none (ι := Dev nD × P) N _ fun y => x_ne_x _ _ (show (1 : Fin 4) ≠ 3 by decide) _ _ _ _, tally_single (xCell_injective 1) N (c, p),
    Finset.sum_const_zero, zero_add, add_zero]
/-- and one of the second exchange one copy. -/
theorem launch_second (c : Dev nD) (p : P) :
    tallyOn (xCell c 3 p.1 p.2.succ) (launchCredit (Pipeline.owing O₀) 0 (xCell c 3 p.1 p.2.succ)) = (tallyAt (xCell c 3 p.1 p.2.succ) () N : CellTallies nD τ sig Unit) := by
  conv_rhs => unfold tallyAt
  refine congrArg _ (Finsupp.ext fun u => ?_); cases u
  rw [owed_all, Finsupp.single_eq_same, Finset.sum_congr rfl fun k _ => tally_none (ι := Dev nD) 1 _ fun y => (bar_ne_x _ _ _ _ _).symm,
    tally_none (ι := Dev nD × P) N _ fun y => x_ne_x _ _ (show (3 : Fin 4) ≠ 1 by decide) _ _ _ _, tally_single (xCell_injective 3) N (c, p),
    Finset.sum_const_zero, zero_add, zero_add]

/-- A device's credit: seven units at its barrier, a block's count at each cell a copy arrives at. -/
theorem creds (c : Dev nD) : (Pipeline.launchCred O₀ c : sProp 𝕄) ⊢ Creds c := by
  unfold Pipeline.launchCred
  refine (bigSep_subset (t := Finset.univ.map ⟨csem, csem_injective⟩) (Finset.subset_univ _)).trans ?_
  rw [bigSep_map]
  refine (Entails.of_eq (bigSep_cells (fun k : CI => (cred (tallyOn (kcell (c, k)) (launchCredit (Pipeline.owing O₀) 0 (kcell (c, k)))) : sProp 𝕄)))).trans ?_
  unfold Creds famX CredX
  iintro ⟨HB, -, -, H1, -, H3⟩
  ihave HB := (Entails.of_eq (congrArg (fun T => (cred T : sProp 𝕄)) (launch_bar c))) $$ HB
  ihave H1 := (Entails.of_eq (bigSep_congr (s := Finset.univ) fun (p : P) _ => congrArg (fun T => (cred T : sProp 𝕄)) (launch_first c p))) $$ H1
  ihave H3 := (Entails.of_eq (bigSep_congr (s := Finset.univ) fun (p : P) _ => congrArg (fun T => (cred T : sProp 𝕄)) (launch_second c p))) $$ H3
  isplitl [HB]; · iexact HB
  isplitl [H1]; · iexact H1
  iexact H3

end Cert.KProof
-- ==== Proof.Launch.lean ====
/-
# The run

The launch copies each device's factors into its staging buffers, runs the body on every device, and copies the result
back. From any memory with all semaphores at zero it ends with the result computed, the arguments as they were and all
semaphores at zero.
-/
module

public import proofs.«01_k».proof.Proof.Body
public import proofs.«01_k».proof.Proof.Deal
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's left factor as staged, -/
def Ast (c : Dev nD) : S512x256.Idx → Elt F .f32 := (win0_0.blk (0 : Fin 1)).view.read (Elt F) (m ((c : Thread nD τ).loc main_arg0))
/-- its right factor, -/
def Bst (c : Dev nD) : S256x512.Idx → Elt F .f32 := (win0_1.blk (0 : Fin 1)).view.read (Elt F) (m ((c : Thread nD τ).loc main_arg1))
/-- and its result. -/
def outAt (c : Dev nD) : S512x512.Idx → Elt F .f32 := outVal (Ast m) (Bst m) c

/-! ## The data of the pipeline -/

/-- What the body starts from, -/
def start (c : Dev nD) : sProp 𝕄 := iprop((∃ K, Recs (Ast m) (Bst m) K ∗ Pos c ∗ Toks c) ∗ Creds c)
/-- this with the scratch buffers, -/
def Φ₀ (c : Dev nD) : sProp 𝕄 := iprop(start m c ∗ Scratch c)
/-- and what it ends with, beside the staging buffers. -/
def Φ₁ (c : Dev nD) : sProp 𝕄 :=
  iprop(semVal (barCell c) 0 ∗ (bigSep Finset.univ fun x : Fin 4 × Fin 2 × Fin 8 => semVal (kcell (c, some x)) 0) ∗ Scratch c)

/-- The arrays before, what the body leaves in the staging buffers, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ast m c
    | ⟨1, _⟩ => Bst m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer at known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The left factor is fetched, -/
theorem fetch_0 (t : Fin cfg0.N) : (cfg0.win (0 : Fin 3)).fetch t = true := by rw [fin_N0 t]; rfl
/-- and so is the right one. -/
theorem fetch_1 (t : Fin cfg0.N) : (cfg0.win (1 : Fin 3)).fetch t = true := by rw [fin_N0 t]; rfl

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, written out, -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and its postcondition. -/
def bodyPost (c : Dev nD) : sProp 𝕄 :=
  iprop(Φ₁ c ∗ (dats m ρ 0 c).owesAt () t0_0.succ ∗ stg c cc0_stg0_0 (Ast m c) ∗ stg c cc0_stg1_0 (Bst m c) ∗ stg c cc0_stg2_0 (outAt m c))

/-- The body's precondition is the state with nothing done, -/
theorem pre_enter (c : Dev nD) : bodyPre m ρ c ⊢ iprop(∃ K, St (Ast m) (Bst m) K c (Left c) ⟨0, 0, false, 0, 0, 0, 0, 0, 0, 0, 0⟩) := by
  unfold bodyPre Φ₀ start
  iintro ⟨⟨⟨⟨%K, HR, HP, HT⟩, HC⟩, HS⟩, Ho, ⟨%d0, %g0, %hg0, Ha⟩, ⟨%d1, %g1, %hg1, Hb⟩, ⟨%d2, %g2, %hg2, Hout⟩⟩
  have ha : g0 = Ast m c := by rw [hg0]; unfold Dat.before; rw [if_pos (fetch_0 t0_0)]; rfl
  have hb : g1 = Bst m c := by rw [hg1]; unfold Dat.before; rw [if_pos (fetch_1 t0_0)]; rfl
  subst ha
  subst hb
  iexists K
  iapply (enter (Ast m) (Bst m) K c)
  isplitl [HR]; · iexact HR
  isplitl [HP HT HC]
  · isplitl [HP]; · iexact HP
    isplitl [HT]; · iexact HT
    iexact HC
  isplitl [HS]; · iexact HS
  isplitl [Ho]
  · unfold Dat.owesAt Pipeline.owesWithin
    icases Ho with ⟨%W, %hW, HO⟩
    unfold Owe; iexists W; iexact HO
  isplitl [Ha]; · unfold FA; iexact Ha
  isplitl [Hb]; · unfold FB; iexact Hb
  iexists g2; iexact Hout

/-- and the state with everything done gives its postcondition. -/
theorem leave_post (K : Dev nD × CI → ℕ) (c : Dev nD) :
    St (Ast m) (Bst m) K c (Left c) ⟨7, 7, true, 14, 14, 2, 14, 16, 14, 14, 14⟩ ⊢ iprop(|={Set.univ}=> bodyPost m ρ c) := by
  refine (leave (Ast m) (Bst m) K c).trans (BI.fupd_mono ?_)
  unfold bodyPost Φ₁ Dat.owesAt Pipeline.owesWithin
  rw [show (dats m ρ 0 c).owed t0_0.succ = 0 from rfl]
  unfold Owe FA FB
  rw [OW_end]
  show iprop(semVal (barCell c) 0 ∗ (bigSep Finset.univ fun x : Fin 4 × Fin 2 × Fin 8 => semVal (kcell (c, some x)) 0)
        ∗ Scratch c ∗ (∃ W, owes (c : Thread nD τ) 0 W) ∗ (((c : Thread nD τ).loc cc0_stg0_0) ↦{fullShare} (Ast m c))
        ∗ (((c : Thread nD τ).loc cc0_stg1_0) ↦{fullShare} (Bst m c))
        ∗ ((c : Thread nD τ).loc cc0_stg2_0) ↦{fullShare} (outVal (Ast m) (Bst m) c)) ⊢ _
  iintro ⟨HB, HX, HS, ⟨%W, HO⟩, Ha, Hb, Hout⟩
  isplitl [HB HX HS]
  · isplitl [HB]; · iexact HB
    isplitl [HX]; · iexact HX
    iexact HS
  isplitl [HO]
  · iexists W
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 40000 in
/-- The body's obligation to the pipeline, on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpk c (atArgs (cc0_body (F := F))) (fun _ => bodyPost m ρ c)
  refine (pre_enter m ρ c).trans ?_
  iintro ⟨%K, H⟩
  iapply (run_body (Q := fun _ => bodyPost m ρ c) (leave_post m ρ K c))
  iexact H

/-! ## The launch -/

/-- The call's own semaphores are the transfer semaphores. -/
theorem ownSemFacts : Pipeline.OwnSemFacts cfg0.spec osem := by decide

/-- Each window holds its whole array. -/
theorem share_eq (c : Dev nD) (w : Fin cfg0.W) : (dats m ρ 0 c).share w = fullShare := by unfold Dat.share; split <;> rfl

/-- The initial ghost state. -/
def u₀ : UU :=
  (initOf (Pipeline.cells cfgs cellOf_inj) (Pipeline.launchToks cfgs cellOf_inj), initOf allCells allToks)

/-- From the launch's deal each device has what it starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Ast m) (Bst m) c)
      ⊢ |={Set.univ}=> iprop(start m c ∗ emp) := by
  unfold G' start Recs
  iintro ⟨-, Hlev, Hcr, -, ⟨%K, HC, HP, HT⟩⟩
  ihave Hc := (creds (F := F) c) $$ Hcr
  imodintro
  isplitl
  · isplitr [Hc]
    · iexists K
      isplitl [Hlev HC]
      · isplitl [Hlev]; · iexact Hlev
        unfold Cells; iexact HC
      isplitl [HP]; · iexact HP
      iexact HT
    iexact Hc
  · iempintro

/-- with the scratch buffers what the body needs, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

/-- and after the body all semaphores are at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0 Scratch
  iintro ⟨HB, HX, HS⟩
  isplitl [HB]; · iexact HB
  isplitl [HX]; · iexact HX
  iexact HS

/-- The staging cells may be awaited at any time: they are of the lowest level. -/
theorem mayWait_stage (c : Dev nD) (s : DmaSem sig) (hs : lvOf (.dma s) = 0) (O : CellTallies nD τ sig Unit) (hO : O = O₀ c ∨ O = 0) :
    (levAts L lv : sProp 𝕄) ⊢ MayWait (c : Thread nD τ) (.dma s) () O := by
  rcases hO with rfl | rfl
  · exact mayWait c _ 0 0 0 (Or.inl (by omega)) (Or.inl (by omega)) (Or.inl (by omega))
  · rw [MayWait_zero]; iintro -; iempintro

/-- So all the pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- A window's array at the end, -/
def finalA (c : Dev nD) (w : Fin cfg0.W) : Buf (Elt F) ((cfg0.win w).arr.view.loc (c : Thread nD τ)) := (dats m ρ 0 c).arrAt w cfg0.N

/-- and the statement that the final memory holds it, for every window and device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- At the compiled mesh of eight devices, for any float values, from any memory with zero counters: every weakly fair
    execution of @main terminates, and every final state has each window's array at its final contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Ast m) (Bst m)) (G' := G' (Ast m) (Bst m)) (u₀ := u₀)
    (hu₀ := by
      unfold u₀
      iintro Hu
      ihave H := (ownU_pair _ _) $$ Hu
      icases H with ⟨HP, HX⟩
      imod (fund_cells (Ast m) (Bst m)) $$ HX with HG
      imodintro
      isplitl [HP] <;> iassumption)
    (hglob := glob (Ast m) (Bst m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held, -/
theorem finalA_a (c : Dev nD) : finalA m ρ c (0 : Fin 3) = m ((c : Thread nD τ).loc main_arg0) :=
  (dats (F := F) m ρ 0 c).arrAt_in (0 : Fin 3) rfl _
/-- the right factors as the left ones. -/
theorem finalA_b (c : Dev nD) : finalA m ρ c (1 : Fin 3) = m ((c : Thread nD τ).loc main_arg1) :=
  (dats (F := F) m ρ 0 c).arrAt_in (1 : Fin 3) rfl _

end Cert.KProof
-- ==== Proof.Value.lean ====
/-
# The value of the result

At the ideal values, rounding is the identity and addition is commutative and associative. So a block's sum, taken in
whatever order its device meets the shares, is the sum over all devices, and every device ends with the same matrix:
the product of the whole factors. This module proves that, and reads the run's final memory.
-/
module

public import proofs.«01_k».proof.Proof.Launch
public import proofs.«01_k».proof.Proof.Gen.KernelIdeal.Points
public import Idealize.ShloMosaic.Lib.StackMember
public import Idealize.ShloMosaic.Lib.KernelVsHost
public import Idealize.ShloMosaic.Lib.Pointwise.Sums
public import Idealize.ShloMosaic.Lib.Layout

@[expose] public section

noncomputable section

namespace Cert.KProof

open Cert.KernelIdeal Cert.KernelIdeal.Gen
open Idealize.ShloMosaic hiding ix2
open Idealize.ShloMosaic.TcCoe
open Idealize.ShloMosaic.ValueIdx
open Idealize.ShloMosaic.StackMember (dotGeneral_plain_apply)
open Idealize.SL.Sem

/-! ## The run's final memory -/

section Final

variable {F : FTy → Type} [FloatOps F]
variable (m : (ℓ : Loc nD τ sig) → Buf (Elt F) ℓ) (ρ : Dev nD → PrngReg)

/-- The first window is the whole of a device's left factor, -/
theorem Ast_eq (c : Dev nD) : Ast m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _
/-- the second is the whole of its right factor, -/
theorem Bst_eq (c : Dev nD) : Bst m c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _

/-- and what is written back is the whole of its result, -/
theorem flushed_out (c : Dev nD) (t : Fin cfg0.N) : (dats (F := F) m ρ 0 c).flushed (2 : Fin 3) t
    = ((cfg0.win (2 : Fin 3)).blk t).view.read (Elt F) (outAt m c : Buf (Elt F) ((c : Thread nD τ).loc main_v1)) := by
  have ht := fin_N0 t
  subst ht
  show (cfg0.win (2 : Fin 3)).cut (grid0.coords t0_0) ((dats (F := F) m ρ 0 c).after (2 : Fin 3) t0_0) = _
  have hz : (fun a => win0_2.index t0_0 a * main_v1.ty.shape.size a) = fun _ => 0 := funext fun a => by fin_cases a <;> decide
  exact (Memref.read_access_unit_zero (Elt F) main_v1 hz (fun a => by rw [congrFun hz a]; simp) (outAt m c)).symm

/-- so the result's array ends as what the body left in its staging buffer. -/
theorem finalA_out (c : Dev nD) : finalA m ρ c (2 : Fin 3) = (outAt m c : Buf (Elt F) ((c : Thread nD τ).loc main_v1)) :=
  (dats (F := F) m ρ 0 c).arrAt_eq_of_cover (2 : Fin 3) (outAt m c) (fun t _ => flushed_out m ρ c t) fun i =>
    ⟨t0_0, flush0_2 t0_0, by
      show i ∈ ((View.whole main_v1).slice (win0_2.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 512 from by decide +kernel]
        omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 512 from by decide +kernel]
        omega⟩

/-- The run, read: on every device the result's array holds `outVal` of all devices' factors, the arguments are as they
    were, and every semaphore counter is zero. -/
theorem run_read : θ_run defs (onTc (τ := τ) (main (F := F))) (s₀ m ρ) (fun r =>
    (∀ c : Dev nD, r.2.mem ((c : Thread nD τ).loc main_v1)
          = outVal (fun d : Dev nD => m ((d : Thread nD τ).loc main_arg0)) (fun d : Dev nD => m ((d : Thread nD τ).loc main_arg1)) c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  refine (θ_run defs _ _).mono (fun r h => ⟨fun c => ⟨?_, ?_, ?_⟩, h.2⟩) (run_main m ρ)
  · refine ((h.1 c (2 : Fin 3)).trans (finalA_out m ρ c)).trans ?_
    unfold outAt
    rw [show Ast m = fun d : Dev nD => m ((d : Thread nD τ).loc main_arg0) from funext (Ast_eq m),
      show Bst m = fun d : Dev nD => m ((d : Thread nD τ).loc main_arg1) from funext (Bst_eq m)]
  · exact (h.1 c (0 : Fin 3)).trans (finalA_a m ρ c)
  · exact (h.1 c (1 : Fin 3)).trans (finalA_b m ρ c)

end Final

/-! ## The shares at the ideal values -/

section AtIdeal

variable (A : Dev nD → S512x256.Idx → Elt Ideal .f32) (B : Dev nD → S256x512.Idx → Elt Ideal .f32)

/-- Device `d`'s share of an element: the sum over the columns it holds of the left factor. -/
def share (d : Dev nD) (x : Fin 512) (y : Fin 512) : EReal := ∑ k : Fin 256, A d (ix2 x k) * B d (ix2 k y)

/-- A block's rows, by coordinates. -/
theorem aRows_apply (c r : Dev nD) (x : Fin 64) (k : Fin 256) : aRows A c r (ix2 x k : S64x256.Idx) = A c (ix2 (rowOf r x) k) := by
  unfold aRows
  refine congrArg (A c) (funext fun a => Fin.ext ?_)
  match a with
  | ⟨0, _⟩ => show 64 * r.val + 1 * x.val = 64 * r.val + x.val; omega
  | ⟨1, _⟩ => show 0 + 1 * k.val = k.val; omega

/-- The unrounded share of a block, by coordinates, -/
theorem dot_apply (c r : Dev nD) (x : Fin 64) (y : Fin 512) :
    k0_pay11 (k0_pay10 (aRows A c r)) (B c) (ix2 x y : S64x512.Idx) = share A B c (rowOf r x) y := by
  unfold k0_pay11 k0_pay10
  simp only [shapeCast_self]
  rw [matmul_zero_eq_dotGeneral]
  refine (dotGeneral_plain_apply none (aRows A c r) (B c) x y).trans ?_
  unfold share
  simp only [aRows_apply]

/-- and the rounded one: at the ideal values they are the same. -/
theorem partBlk_apply (c r : Dev nD) (x : Fin 64) (y : Fin 512) :
    partBlk A B c r (ix2 x y : S64x512.Idx) = share A B c (rowOf r x) y := by
  refine Eq.trans ?_ (dot_apply A B c r x y)
  unfold partBlk k0_pay1 k0_pay11 k0_pay10
  simp only [shapeCast_self]
  rfl

/-- Half `q` of a device's own share, as it is cut out of the whole, -/
theorem ownHalf_eq (c : Dev nD) (q : Fin 2) (x : Fin 64) (y : Fin 256) :
    ownHalf A B c q (ix2 x y : S64x256.Idx) = ownDot A B c (ix2 x (colOf q y) : S64x512.Idx) := by
  unfold ownHalf
  generalize ownDot A B c = D
  match q with
  | ⟨0, _⟩ =>
    refine congrArg D (funext fun a => Fin.ext ?_)
    match a with
    | ⟨0, _⟩ => show 0 + x.val = x.val; omega
    | ⟨1, _⟩ => show 0 + y.val = 256 * 0 + y.val; omega
  | ⟨1, _⟩ =>
    refine congrArg D (funext fun a => Fin.ext ?_)
    match a with
    | ⟨0, _⟩ => show 0 + x.val = x.val; omega
    | ⟨1, _⟩ => show 256 + y.val = 256 * 1 + y.val; omega

/-- and by coordinates. -/
theorem ownHalf_apply (c : Dev nD) (q : Fin 2) (x : Fin 64) (y : Fin 256) :
    ownHalf A B c q (ix2 x y : S64x256.Idx) = share A B c (rowOf c x) (colOf q y) := by
  rw [ownHalf_eq]
  unfold ownDot
  exact dot_apply A B c c x (colOf q y)

/-- Adding a landed share adds, at each element, the share of the device it came from. -/
theorem addShare_apply (c : Dev nD) (q : Fin 2) (s : Fin 8) (v : FVec Ideal S64x256 .f32) (x : Fin 64) (y : Fin 256) :
    addShare v (stagHalf A B c q s) (ix2 x y : S64x256.Idx)
      = (v (ix2 x y : S64x256.Idx) : EReal) + share A B (bak c s) (rowOf c x) (colOf q y) := by
  unfold addShare
  show (v (ix2 x y : S64x256.Idx) : EReal)
    + shapeCast S64x256 (stagHalf A B c q s) shapeCasts_S1x64x256_S64x256 (ix2 x y : S64x256.Idx) = _
  rw [shapeCast_1ab_ab_apply]
  unfold stagHalf
  rw [stagVal_emb, partBlk_apply]

/-- A block's sum is the sum over the devices of their shares. -/
theorem acc_apply (c : Dev nD) (q : Fin 2) (x : Fin 64) (y : Fin 256) :
    acc A B c q (ix2 x y : S64x256.Idx) = ∑ d : Dev nD, share A B d (rowOf c x) (colOf q y) := by
  rw [← Equiv.sum_comp (bakE c) (fun d => share A B d (rowOf c x) (colOf q y)), Fin.sum_univ_eight]
  unfold acc
  simp only [addShare_apply, ownHalf_apply]
  show _ = share A B (bak c 0) _ _ + _ + _ + _ + _ + _ + _ + _
  rw [bak_zero]
  rfl

/-- Every block of every device's result holds the sums over the devices of their shares, -/
theorem outBlk_apply (c r : Dev nD) (q : Fin 2) (x : Fin 64) (y : Fin 256) :
    outBlk A B c r q (ix2 x y : S64x256.Idx) = ∑ d : Dev nD, share A B d (rowOf r x) (colOf q y) := by
  unfold outBlk
  split
  · next h => subst h; exact acc_apply A B r q x y
  · refine Eq.trans ?_ (acc_apply A B r q x y)
    unfold k0_pay22 gatBlk
    rw [shapeCast_self]
    rfl

/-- and so does the whole result, the same on every device. -/
theorem outVal_apply (c : Dev nD) (x y : Fin 512) :
    outVal A B c (ix2 x y : S512x512.Idx) = ∑ d : Dev nD, share A B d x y := by
  have hx := ix2_parts (ix2 x y : S512x512.Idx)
  have h0 : rowOf (rowDev (ix2 x y : S512x512.Idx)) (rowIn (ix2 x y : S512x512.Idx)) = x := congrFun hx 0
  have h1 : colOf (colHalf (ix2 x y : S512x512.Idx)) (colIn (ix2 x y : S512x512.Idx)) = y := congrFun hx 1
  unfold outVal ofBlocks
  rw [outBlk_apply, h0, h1]

/-- When the devices hold the blocks of columns of `X` and the blocks of rows of `Y`, every device's result is the
    product of `X` and `Y`. -/
theorem outVal_eq_dot (X : FVec Ideal ⟨2, ![512, 2048]⟩ .f32) (Y : FVec Ideal ⟨2, ![2048, 512]⟩ .f32)
    (hA : ∀ d : Dev nD, A d = Layout.block ⟨2, ![512, 256]⟩ ⟨2, ![512, 2048]⟩ 1 8 d X)
    (hB : ∀ d : Dev nD, B d = Layout.block ⟨2, ![256, 512]⟩ ⟨2, ![2048, 512]⟩ 0 8 d Y) (c : Dev nD) :
    outVal A B c = (Host.dotGeneral (DotDims.plain 512 2048 512) none X Y : FVec Ideal S512x512 .f32) := by
  funext i
  obtain ⟨x, y, rfl⟩ := exists_ix2 i
  rw [outVal_apply]
  refine Eq.trans ?_ (dotGeneral_plain_apply none X Y x y).symm
  rw [Fin.sum_univ_tiles 8 256 rfl]
  refine Finset.sum_congr rfl fun d _ => ?_
  unfold share
  refine Finset.sum_congr rfl fun k _ => ?_
  rw [hA, hB, Layout.block_apply, Layout.block_apply]
  refine congrArg₂ (· * ·) (congrArg X (funext fun a => Fin.ext ?_)) (congrArg Y (funext fun a => Fin.ext ?_))
  · match a with
    | ⟨0, _⟩ => rfl
    | ⟨1, _⟩ => rfl
  · match a with
    | ⟨0, _⟩ => rfl
    | ⟨1, _⟩ => rfl

end AtIdeal

end Cert.KProof
-- ==== Proof.lean ====
/-
# The claims

`Proof/Launch.lean` runs the program once, for any float values; `Proof/Value.lean` reads the run's final memory and
proves that at the ideal values the result is the product of the whole factors. This module takes the five claims
from the two. The program and its idealization have the same text, so the program's frame is the same run at the
floats of the hardware.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem
open Cert.KProof (run_read outVal_eq_dot)

section SameText

variable {F : FTy → Type} [FloatOps F]

set_option maxRecDepth 40000 in
/-- The program's body is its idealization's, -/
theorem bodies_tc : Cert.Kernel.defs₀ (F := F) .tc = Cert.KernelIdeal.defs₀ (F := F) .tc := by
  funext l
  match l with
  | (0 : Fin 1) => exact funext fun a => rfl
/-- on every processor, -/
theorem bodies : Cert.Kernel.defs₀ (F := F) = Cert.KernelIdeal.defs₀ (F := F) := by
  funext p
  match p with
  | .tc => exact bodies_tc
  | .scScalar _ => rfl
  | .scVector _ _ => rfl
/-- and so are its definitions. -/
theorem defs_same : Cert.Kernel.defs (F := F) = Cert.KernelIdeal.defs (F := F) := congrArg (Pipeline.defs Cert.KernelIdeal.pcfgs) bodies

end SameText

/-- `Cert.quiescent_Kernel`: the program terminates, its arguments end unchanged and every counter is zero. -/
theorem frame_kernel : Cert.quiescent_Kernel := by
  intro m ρ _
  rw [defs_same]
  exact (θ_run Cert.KernelIdeal.defs _ _).mono (fun _ h => ⟨fun c => ⟨(h.1 c).2.1, (h.1 c).2.2⟩, h.2⟩) (run_read (F := Bits) m ρ)

/-- `Cert.quiescent_KernelIdeal`: so does its idealization. -/
theorem frame_ideal : Cert.quiescent_KernelIdeal := fun m ρ _ =>
  (θ_run Cert.KernelIdeal.defs _ _).mono (fun _ h => ⟨fun c => ⟨(h.1 c).2.1, (h.1 c).2.2⟩, h.2⟩) (run_read (F := Ideal) m ρ)

/-- `Cert.quiescent_ReferenceIdeal`: so does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.preserves_Kernel_KernelIdeal`: no operation was rewritten. -/
theorem preserves : Cert.preserves_Kernel_KernelIdeal := trivial

/-- `Cert.algebraic_KernelIdeal_ReferenceIdeal`: at the ideal values every device's result is the reference's, the
    product of the whole factors of which the devices hold the blocks. -/
theorem algebraic : Cert.algebraic_KernelIdeal_ReferenceIdeal := by
  intro m ρ m' ρ' _ hagree
  refine ⟨_, (θ_run Cert.KernelIdeal.defs _ _).mono (fun _ h c => ⟨((h.1 c).1.trans ?_ : _ = _), (h.1 c).2⟩) (run_read (F := Ideal) m ρ),
    (θ_run Cert.ReferenceIdeal.defs _ _).mono (fun _ h => h 0) (Cert.ReferenceIdeal.Value.run (F := Ideal) m' ρ')⟩
  exact outVal_eq_dot _ _ _ _ (fun d => (hagree d).1) (fun d => (hagree d).2) c

/-- Everything the certificate claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
